-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S3584x2x256 Cert.KernelIdeal.S3584x1x256
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S3584x2x256 Cert.KernelIdeal.S3584x1x256
  ∧ IdealRules.bf16_pair.Statement Cert.KernelIdeal.S7168x256 Cert.KernelIdeal.S3584x256

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v1_0) = v1 c
          ∧ r.2.mem ((c.tc : Thread Cert.ReferenceIdeal.nD Cert.ReferenceIdeal.τ).loc Cert.ReferenceIdeal.main_v1_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S2x128x7168 : Shape := ⟨3, ![2, 128, 7168]⟩
abbrev S18432x3584 : Shape := ⟨2, ![18432, 3584]⟩
abbrev S18432x224 : Shape := ⟨2, ![18432, 224]⟩
abbrev S18432x56 : Shape := ⟨2, ![18432, 56]⟩
abbrev S18432x224x8 : Shape := ⟨3, ![18432, 224, 8]⟩
abbrev S_ : Shape := ⟨0, ![]⟩

class Facts : Prop where
  bcast_S18432x224_S18432x224x8_0_1 : S18432x224.BroadcastsInDim S18432x224x8 (![0, 1] : Fin 2 → Fin S18432x224x8.rank)
  bcast_S_S2x128x7168 : S_.BroadcastsInDim S2x128x7168 (![] : Fin 0 → Fin S2x128x7168.rank)
  bcast_S_S18432x224x8 : S_.BroadcastsInDim S18432x224x8 (![] : Fin 0 → Fin S18432x224x8.rank)

variable [Facts]

def fn {F : FTy → Type} [FloatOps F] (main_arg0 : FVec F S2x128x7168 .bf16) (main_arg1 : FVec F S18432x3584 .fp8e4m3) (main_arg2 : IVec S18432x224 32) (main_arg3 : FVec F S18432x56 .f32) : IVec S2x128x7168 1 × IVec S18432x224x8 1 :=
  let main_v0 : IVec S18432x224x8 32 := iotaInDim S18432x224x8 32 2
  let main_v1 : IVec S18432x224x8 32 := broadcastInDim S18432x224x8 ![0, 1] bcast_S18432x224_S18432x224x8_0_1 main_arg2
  let main_v2 : FVec F S2x128x7168 .bf16 := Host.absf main_arg0
  let main_cst : FVec F S_ .bf16 := constant S_ .bf16 0x7F7F#16
  let main_v3 : FVec F S2x128x7168 .bf16 := broadcastInDim S2x128x7168 ![] bcast_S_S2x128x7168 main_cst
  let main_v4 : IVec S2x128x7168 1 := cmpf .ole main_v2 main_v3
  let main_c : IVec S_ 32 := constantI S_ 32 4#32
  let main_v5 : IVec S18432x224x8 32 := broadcastInDim S18432x224x8 ![] bcast_S_S18432x224x8 main_c
  let main_v6 : IVec S18432x224x8 32 := muli main_v5 main_v0
  let main_v7 : IVec S18432x224x8 32 := Host.shrsi main_v1 main_v6
  let main_c_0 : IVec S_ 32 := constantI S_ 32 3#32
  let main_v8 : IVec S18432x224x8 32 := broadcastInDim S18432x224x8 ![] bcast_S_S18432x224x8 main_c_0
  let main_v9 : IVec S18432x224x8 32 := andi main_v7 main_v8
  let main_c_1 : IVec S_ 32 := constantI S_ 32 4#32
  let main_v10 : IVec S18432x224x8 32 := broadcastInDim S18432x224x8 ![] bcast_S_S18432x224x8 main_c_1
  let main_v11 : IVec S18432x224x8 32 := muli main_v10 main_v0
  let main_c_2 : IVec S_ 32 := constantI S_ 32 2#32
  let main_v12 : IVec S18432x224x8 32 := broadcastInDim S18432x224x8 ![] bcast_S_S18432x224x8 main_c_2
  let main_v13 : IVec S18432x224x8 32 := addi main_v11 main_v12
  let main_v14 : IVec S18432x224x8 32 := Host.shrsi main_v1 main_v13
  let main_c_3 : IVec S_ 32 := constantI S_ 32 3#32
  let main_v15 : IVec S18432x224x8 32 := broadcastInDim S18432x224x8 ![] bcast_S_S18432x224x8 main_c_3
  let main_v16 : IVec S18432x224x8 32 := andi main_v14 main_v15
  let main_v17 : IVec S18432x224x8 1 := cmpi .slt main_v9 main_v16
  (main_v4, main_v17)
-- ==== Kernel.lean ====
abbrev S2x128x7168 : Shape := ⟨3, ![2, 128, 7168]⟩
abbrev S18432x3584 : Shape := ⟨2, ![18432, 3584]⟩
abbrev S18432x224 : Shape := ⟨2, ![18432, 224]⟩
abbrev S18432x56 : Shape := ⟨2, ![18432, 56]⟩
abbrev S256x7168 : Shape := ⟨2, ![256, 7168]⟩
abbrev S256x18432 : Shape := ⟨2, ![256, 18432]⟩
abbrev S256x1 : Shape := ⟨2, ![256, 1]⟩
abbrev S256x3584 : Shape := ⟨2, ![256, 3584]⟩
abbrev S256x224 : Shape := ⟨2, ![256, 224]⟩
abbrev S256x56 : Shape := ⟨2, ![256, 56]⟩
abbrev S256x512 : Shape := ⟨2, ![256, 512]⟩
abbrev S256x128 : Shape := ⟨2, ![256, 128]⟩
abbrev S224x256 : Shape := ⟨2, ![224, 256]⟩
abbrev S56x256 : Shape := ⟨2, ![56, 256]⟩
abbrev S3584x256 : Shape := ⟨2, ![3584, 256]⟩
abbrev S256 : Shape := ⟨1, ![256]⟩
abbrev S256x256 : Shape := ⟨2, ![256, 256]⟩
abbrev S256x128x1 : Shape := ⟨3, ![256, 128, 1]⟩
abbrev S128x256 : Shape := ⟨2, ![128, 256]⟩
abbrev S256x96 : Shape := ⟨2, ![256, 96]⟩
abbrev S96x256 : Shape := ⟨2, ![96, 256]⟩
abbrev S8x128 : Shape := ⟨2, ![8, 128]⟩
abbrev S128x128 : Shape := ⟨2, ![128, 128]⟩
abbrev S1x128 : Shape := ⟨2, ![1, 128]⟩
abbrev S16x128 : Shape := ⟨2, ![16, 128]⟩
abbrev S7168x256 : Shape := ⟨2, ![7168, 256]⟩

abbrev nBuf : Space → Nat
  | .hbm => 8
  | .vmem => 28
  | .smem => 0
  | _ => 0

abbrev bufTy : (tb : Table) → Fin (tcTables nBuf tb) → BufTy
  | .hbm, ⟨0, _⟩ => ⟨S2x128x7168, .bf16⟩
  | .hbm, ⟨1, _⟩ => ⟨S18432x3584, .fp8e4m3⟩
  | .hbm, ⟨2, _⟩ => ⟨S18432x224, .i32⟩
  | .hbm, ⟨3, _⟩ => ⟨S18432x56, .f32⟩
  | .hbm, ⟨4, _⟩ => ⟨S256x7168, .bf16⟩
  | .hbm, ⟨5, _⟩ => ⟨S256x18432, .bf16⟩
  | .hbm, ⟨6, _⟩ => ⟨S256x7168, .fp8e4m3⟩
  | .hbm, ⟨7, _⟩ => ⟨S256x1, .f32⟩
  | .local _ .vmem, ⟨0, _⟩ => ⟨S256x7168, .bf16⟩
  | .local _ .vmem, ⟨1, _⟩ => ⟨S256x3584, .fp8e4m3⟩
  | .local _ .vmem, ⟨2, _⟩ => ⟨S256x224, .i32⟩
  | .local _ .vmem, ⟨3, _⟩ => ⟨S256x56, .f32⟩
  | .local _ .vmem, ⟨4, _⟩ => ⟨S256x3584, .fp8e4m3⟩
  | .local _ .vmem, ⟨5, _⟩ => ⟨S256x3584, .fp8e4m3⟩
  | .local _ .vmem, ⟨6, _⟩ => ⟨S256x224, .i32⟩
  | .local _ .vmem, ⟨7, _⟩ => ⟨S256x224, .i32⟩
  | .local _ .vmem, ⟨8, _⟩ => ⟨S256x56, .f32⟩
  | .local _ .vmem, ⟨9, _⟩ => ⟨S256x56, .f32⟩
  | .local _ .vmem, ⟨10, _⟩ => ⟨S256x3584, .fp8e4m3⟩
  | .local _ .vmem, ⟨11, _⟩ => ⟨S256x3584, .fp8e4m3⟩
  | .local _ .vmem, ⟨12, _⟩ => ⟨S256x224, .i32⟩
  | .local _ .vmem, ⟨13, _⟩ => ⟨S256x224, .i32⟩
  | .local _ .vmem, ⟨14, _⟩ => ⟨S256x56, .f32⟩
  | .local _ .vmem, ⟨15, _⟩ => ⟨S256x56, .f32⟩
  | .local _ .vmem, ⟨16, _⟩ => ⟨S256x512, .bf16⟩
  | .local _ .vmem, ⟨17, _⟩ => ⟨S256x512, .bf16⟩
  | .local _ .vmem, ⟨18, _⟩ => ⟨S256x7168, .fp8e4m3⟩
  | .local _ .vmem, ⟨19, _⟩ => ⟨S256x1, .f32⟩
  | .local _ .vmem, ⟨20, _⟩ => ⟨S256x7168, .bf16⟩
  | .local _ .vmem, ⟨21, _⟩ => ⟨S256x128, .f32⟩
  | .local _ .vmem, ⟨22, _⟩ => ⟨S224x256, .i32⟩
  | .local _ .vmem, ⟨23, _⟩ => ⟨S56x256, .f32⟩
  | .local _ .vmem, ⟨24, _⟩ => ⟨S224x256, .i32⟩
  | .local _ .vmem, ⟨25, _⟩ => ⟨S56x256, .f32⟩
  | .local _ .vmem, ⟨26, _⟩ => ⟨S3584x256, .i32⟩
  | .local _ .vmem, ⟨27, _⟩ => ⟨S3584x256, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [BitOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c1_i32_85 : BitVec 32 := 1#32
  let c55_i32 : BitVec 32 := 55#32
  let v142 : BitVec 32 := Scalar.addi c1_i32_85 c55_i32
  let c1_i32_86 : BitVec 32 := 1#32
  ⟨c1_i32_85, v142, c1_i32_86⟩
def k0_mult1 (k0_t1 : Fin k0_t1_loop.trips) : BitVec 32 :=
  let c1_i32_85 : BitVec 32 := 1#32
  let c1_i32_86 : BitVec 32 := 1#32
  let arg22 : BitVec 32 := Scf.iv c1_i32_85 c1_i32_86 k0_t1
  let c128_i32 : BitVec 32 := 128#32
  let v263 : BitVec 32 := Scalar.muli arg22 c128_i32
  v263
def k0_off1 (k0_t1 : Fin k0_t1_loop.trips) : Fin 2 → Nat :=
  let c0_145 : Index := 0#32
  let c1_i32_85 : BitVec 32 := 1#32
  let c1_i32_86 : BitVec 32 := 1#32
  let arg22 : BitVec 32 := Scf.iv c1_i32_85 c1_i32_86 k0_t1
  let c128_i32 : BitVec 32 := 128#32
  let v263 : BitVec 32 := Scalar.muli arg22 c128_i32
  let v264 : BitVec 32 := v263
  let v265 : Index := Scalar.indexCast v264
  ![0, v265.toNat]
@[reducible] def k0_t2_loop : Scf.Loop 32 :=
  let c0_i32_108 : BitVec 32 := 0#32
  let c56_i32 : BitVec 32 := 56#32
  let v208 : BitVec 32 := Scalar.addi c0_i32_108 c56_i32
  let c1_i32_109 : BitVec 32 := 1#32
  ⟨c0_i32_108, v208, c1_i32_109⟩
def k0_mult2 (k0_t2 : Fin k0_t2_loop.trips) : BitVec 32 :=
  let c0_i32_108 : BitVec 32 := 0#32
  let c1_i32_109 : BitVec 32 := 1#32
  let arg22 : BitVec 32 := Scf.iv c0_i32_108 c1_i32_109 k0_t2
  let c128_i32 : BitVec 32 := 128#32
  let v263 : BitVec 32 := Scalar.muli arg22 c128_i32
  v263
def k0_off2 (k0_t2 : Fin k0_t2_loop.trips) : Fin 2 → Nat :=
  let c0_145 : Index := 0#32
  let c0_i32_108 : BitVec 32 := 0#32
  let c1_i32_109 : BitVec 32 := 1#32
  let arg22 : BitVec 32 := Scf.iv c0_i32_108 c1_i32_109 k0_t2
  let c128_i32 : BitVec 32 := 128#32
  let v263 : BitVec 32 := Scalar.muli arg22 c128_i32
  let v264 : BitVec 32 := v263
  let v265 : Index := Scalar.indexCast v264
  ![0, v265.toNat]
@[reducible] def k0_t3_loop : Scf.Loop 32 :=
  let c0_i32_137 : BitVec 32 := 0#32
  let c28_i32_138 : BitVec 32 := 28#32
  let v261 : BitVec 32 := Scalar.addi c0_i32_137 c28_i32_138
  let c1_i32_139 : BitVec 32 := 1#32
  ⟨c0_i32_137, v261, c1_i32_139⟩
def k0_mult3 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c128_i32 : BitVec 32 := 128#32
  let v263 : BitVec 32 := Scalar.muli arg22 c128_i32
  v263
def k0_off3 (k0_t3 : Fin k0_t3_loop.trips) : Fin 2 → Nat :=
  let c0_145 : Index := 0#32
  let c0_i32_137 : BitVec 32 := 0#32
  let c1_i32_139 : BitVec 32 := 1#32
  let arg22 : BitVec 32 := Scf.iv c0_i32_137 c1_i32_139 k0_t3
  let c128_i32 : BitVec 32 := 128#32
  let v263 : BitVec 32 := Scalar.muli arg22 c128_i32
  let v264 : BitVec 32 := v263
  let v265 : Index := Scalar.indexCast v264
  ![0, v265.toNat]
def k0_off4 (k0_t3 : Fin k0_t3_loop.trips) (c0_i32_148 : BitVec 32) : Fin 2 → Nat :=
  let c0_i32_137 : BitVec 32 := 0#32
  let c1_i32_139 : BitVec 32 := 1#32
  let arg22 : BitVec 32 := Scf.iv c0_i32_137 c1_i32_139 k0_t3
  let c2_i32_147 : BitVec 32 := 2#32
  let v271 : BitVec 32 := Scalar.muli arg22 c2_i32_147
  let v272 : BitVec 32 := Scalar.addi v271 c0_i32_148
  let v273 : Index := Scalar.indexCast v272
  let c0_149 : Index := 0#32
  ![v273.toNat, 0]
def k0_off5 (k0_t3 : Fin k0_t3_loop.trips) (c0_i32_146 : BitVec 32) : Fin 2 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let v280 : Index := Scalar.indexCast v270
  let c0_150 : Index := 0#32
  ![v280.toNat, 0]
def k0_mult4 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let c0_i32_146 : BitVec 32 := 0#32
  let v270 : BitVec 32 := Scalar.addi v269 c0_i32_146
  let c16_i32_156 : BitVec 32 := 16#32
  let v308 : BitVec 32 := Scalar.muli v270 c16_i32_156
  v308
def k0_off6 (k0_t3 : Fin k0_t3_loop.trips) (c0_i32_146 : BitVec 32) : Fin 2 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let v310 : Index := Scalar.indexCast v309
  let c0_157 : Index := 0#32
  ![v310.toNat, 0]
def k0_off7 (k0_t3 : Fin k0_t3_loop.trips) (c0_i32_146 : BitVec 32) : Fin 2 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let c8_i32_158 : BitVec 32 := 8#32
  let v314 : BitVec 32 := Scalar.addi v309 c8_i32_158
  let v315 : Index := Scalar.indexCast v314
  let c0_159 : Index := 0#32
  ![v315.toNat, 0]
def k0_mult5 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_160 : BitVec 32 := 8#32
  let v319 : BitVec 32 := Scalar.muli arg22 c8_i32_160
  let c1_i32_161 : BitVec 32 := 1#32
  let v320 : BitVec 32 := Scalar.addi v319 c1_i32_161
  let c16_i32_175 : BitVec 32 := 16#32
  let v358 : BitVec 32 := Scalar.muli v320 c16_i32_175
  v358
def k0_mult6 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_179 : BitVec 32 := 8#32
  let v369 : BitVec 32 := Scalar.muli arg22 c8_i32_179
  let c2_i32_180 : BitVec 32 := 2#32
  let v370 : BitVec 32 := Scalar.addi v369 c2_i32_180
  let c16_i32_194 : BitVec 32 := 16#32
  let v408 : BitVec 32 := Scalar.muli v370 c16_i32_194
  v408
def k0_mult7 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_198 : BitVec 32 := 8#32
  let v419 : BitVec 32 := Scalar.muli arg22 c8_i32_198
  let c3_i32_199 : BitVec 32 := 3#32
  let v420 : BitVec 32 := Scalar.addi v419 c3_i32_199
  let c16_i32_213 : BitVec 32 := 16#32
  let v458 : BitVec 32 := Scalar.muli v420 c16_i32_213
  v458
def k0_mult8 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_217 : BitVec 32 := 8#32
  let v469 : BitVec 32 := Scalar.muli arg22 c8_i32_217
  let c4_i32_218 : BitVec 32 := 4#32
  let v470 : BitVec 32 := Scalar.addi v469 c4_i32_218
  let c16_i32_232 : BitVec 32 := 16#32
  let v508 : BitVec 32 := Scalar.muli v470 c16_i32_232
  v508
def k0_mult9 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_236 : BitVec 32 := 8#32
  let v519 : BitVec 32 := Scalar.muli arg22 c8_i32_236
  let c5_i32 : BitVec 32 := 5#32
  let v520 : BitVec 32 := Scalar.addi v519 c5_i32
  let c16_i32_250 : BitVec 32 := 16#32
  let v558 : BitVec 32 := Scalar.muli v520 c16_i32_250
  v558
def k0_mult10 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_254 : BitVec 32 := 8#32
  let v569 : BitVec 32 := Scalar.muli arg22 c8_i32_254
  let c6_i32 : BitVec 32 := 6#32
  let v570 : BitVec 32 := Scalar.addi v569 c6_i32
  let c16_i32_268 : BitVec 32 := 16#32
  let v608 : BitVec 32 := Scalar.muli v570 c16_i32_268
  v608
def k0_mult11 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_272 : BitVec 32 := 8#32
  let v619 : BitVec 32 := Scalar.muli arg22 c8_i32_272
  let c7_i32 : BitVec 32 := 7#32
  let v620 : BitVec 32 := Scalar.addi v619 c7_i32
  let c16_i32_286 : BitVec 32 := 16#32
  let v658 : BitVec 32 := Scalar.muli v620 c16_i32_286
  v658
@[reducible] def k0_t4_loop : Scf.Loop 32 :=
  let c0_i32_141 : BitVec 32 := 0#32
  let c28_i32_142 : BitVec 32 := 28#32
  let v262 : BitVec 32 := Scalar.addi c0_i32_141 c28_i32_142
  let c1_i32_143 : BitVec 32 := 1#32
  ⟨c0_i32_141, v262, c1_i32_143⟩
def k0_mult12 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c128_i32 : BitVec 32 := 128#32
  let v263 : BitVec 32 := Scalar.muli arg22 c128_i32
  v263
def k0_off8 (k0_t4 : Fin k0_t4_loop.trips) : Fin 2 → Nat :=
  let c128_145 : Index := 128#32
  let c0_i32_141 : BitVec 32 := 0#32
  let c1_i32_143 : BitVec 32 := 1#32
  let arg22 : BitVec 32 := Scf.iv c0_i32_141 c1_i32_143 k0_t4
  let c128_i32 : BitVec 32 := 128#32
  let v263 : BitVec 32 := Scalar.muli arg22 c128_i32
  let v264 : BitVec 32 := v263
  let v265 : Index := Scalar.indexCast v264
  ![128, v265.toNat]
def k0_off9 (k0_t4 : Fin k0_t4_loop.trips) (c0_i32_148 : BitVec 32) : Fin 2 → Nat :=
  let c0_i32_141 : BitVec 32 := 0#32
  let c1_i32_143 : BitVec 32 := 1#32
  let arg22 : BitVec 32 := Scf.iv c0_i32_141 c1_i32_143 k0_t4
  let c2_i32_147 : BitVec 32 := 2#32
  let v271 : BitVec 32 := Scalar.muli arg22 c2_i32_147
  let v272 : BitVec 32 := Scalar.addi v271 c0_i32_148
  let v273 : Index := Scalar.indexCast v272
  let c128_149 : Index := 128#32
  ![v273.toNat, 128]
def k0_off10 (k0_t4 : Fin k0_t4_loop.trips) (c0_i32_146 : BitVec 32) : Fin 2 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let v280 : Index := Scalar.indexCast v270
  let c128_150 : Index := 128#32
  ![v280.toNat, 128]
def k0_mult13 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let c0_i32_146 : BitVec 32 := 0#32
  let v270 : BitVec 32 := Scalar.addi v269 c0_i32_146
  let c16_i32_156 : BitVec 32 := 16#32
  let v308 : BitVec 32 := Scalar.muli v270 c16_i32_156
  v308
def k0_off11 (k0_t4 : Fin k0_t4_loop.trips) (c0_i32_146 : BitVec 32) : Fin 2 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let v310 : Index := Scalar.indexCast v309
  let c128_157 : Index := 128#32
  ![v310.toNat, 128]
def k0_off12 (k0_t4 : Fin k0_t4_loop.trips) (c0_i32_146 : BitVec 32) : Fin 2 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let c8_i32_158 : BitVec 32 := 8#32
  let v314 : BitVec 32 := Scalar.addi v309 c8_i32_158
  let v315 : Index := Scalar.indexCast v314
  let c128_159 : Index := 128#32
  ![v315.toNat, 128]
def k0_mult14 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_160 : BitVec 32 := 8#32
  let v319 : BitVec 32 := Scalar.muli arg22 c8_i32_160
  let c1_i32_161 : BitVec 32 := 1#32
  let v320 : BitVec 32 := Scalar.addi v319 c1_i32_161
  let c16_i32_175 : BitVec 32 := 16#32
  let v358 : BitVec 32 := Scalar.muli v320 c16_i32_175
  v358
def k0_mult15 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_179 : BitVec 32 := 8#32
  let v369 : BitVec 32 := Scalar.muli arg22 c8_i32_179
  let c2_i32_180 : BitVec 32 := 2#32
  let v370 : BitVec 32 := Scalar.addi v369 c2_i32_180
  let c16_i32_194 : BitVec 32 := 16#32
  let v408 : BitVec 32 := Scalar.muli v370 c16_i32_194
  v408
def k0_mult16 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_198 : BitVec 32 := 8#32
  let v419 : BitVec 32 := Scalar.muli arg22 c8_i32_198
  let c3_i32_199 : BitVec 32 := 3#32
  let v420 : BitVec 32 := Scalar.addi v419 c3_i32_199
  let c16_i32_213 : BitVec 32 := 16#32
  let v458 : BitVec 32 := Scalar.muli v420 c16_i32_213
  v458
def k0_mult17 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_217 : BitVec 32 := 8#32
  let v469 : BitVec 32 := Scalar.muli arg22 c8_i32_217
  let c4_i32_218 : BitVec 32 := 4#32
  let v470 : BitVec 32 := Scalar.addi v469 c4_i32_218
  let c16_i32_232 : BitVec 32 := 16#32
  let v508 : BitVec 32 := Scalar.muli v470 c16_i32_232
  v508
def k0_mult18 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_236 : BitVec 32 := 8#32
  let v519 : BitVec 32 := Scalar.muli arg22 c8_i32_236
  let c5_i32 : BitVec 32 := 5#32
  let v520 : BitVec 32 := Scalar.addi v519 c5_i32
  let c16_i32_250 : BitVec 32 := 16#32
  let v558 : BitVec 32 := Scalar.muli v520 c16_i32_250
  v558
def k0_mult19 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_254 : BitVec 32 := 8#32
  let v569 : BitVec 32 := Scalar.muli arg22 c8_i32_254
  let c6_i32 : BitVec 32 := 6#32
  let v570 : BitVec 32 := Scalar.addi v569 c6_i32
  let c16_i32_268 : BitVec 32 := 16#32
  let v608 : BitVec 32 := Scalar.muli v570 c16_i32_268
  v608
def k0_mult20 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_272 : BitVec 32 := 8#32
  let v619 : BitVec 32 := Scalar.muli arg22 c8_i32_272
  let c7_i32 : BitVec 32 := 7#32
  let v620 : BitVec 32 := Scalar.addi v619 c7_i32
  let c16_i32_286 : BitVec 32 := 16#32
  let v658 : BitVec 32 := Scalar.muli v620 c16_i32_286
  v658
@[reducible] def k0_t5_loop : Scf.Loop 32 :=
  let c0_i32_30 : BitVec 32 := 0#32
  let c28_i32_31 : BitVec 32 := 28#32
  let v69 : BitVec 32 := Scalar.addi c0_i32_30 c28_i32_31
  let c1_i32_32 : BitVec 32 := 1#32
  ⟨c0_i32_30, v69, c1_i32_32⟩
def k0_mult21 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c128_i32 : BitVec 32 := 128#32
  let v139 : BitVec 32 := Scalar.muli arg22 c128_i32
  v139
def k0_off13 (k0_t5 : Fin k0_t5_loop.trips) : Fin 2 → Nat :=
  let c0_83 : Index := 0#32
  let c0_i32_30 : BitVec 32 := 0#32
  let c1_i32_32 : BitVec 32 := 1#32
  let arg22 : BitVec 32 := Scf.iv c0_i32_30 c1_i32_32 k0_t5
  let c128_i32 : BitVec 32 := 128#32
  let v139 : BitVec 32 := Scalar.muli arg22 c128_i32
  let v140 : BitVec 32 := v139
  let v141 : Index := Scalar.indexCast v140
  ![0, v141.toNat]
def k0_off14 (k0_t5 : Fin k0_t5_loop.trips) (c0_i32_86 : BitVec 32) : Fin 2 → Nat :=
  let c0_i32_30 : BitVec 32 := 0#32
  let c1_i32_32 : BitVec 32 := 1#32
  let arg22 : BitVec 32 := Scf.iv c0_i32_30 c1_i32_32 k0_t5
  let c2_i32_85 : BitVec 32 := 2#32
  let v147 : BitVec 32 := Scalar.muli arg22 c2_i32_85
  let v148 : BitVec 32 := Scalar.addi v147 c0_i32_86
  let v149 : Index := Scalar.indexCast v148
  let c0_87 : Index := 0#32
  ![v149.toNat, 0]
def k0_off15 (k0_t5 : Fin k0_t5_loop.trips) (c0_i32_84 : BitVec 32) : Fin 2 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let v156 : Index := Scalar.indexCast v146
  let c0_88 : Index := 0#32
  ![v156.toNat, 0]
def k0_mult22 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off16 (k0_t5 : Fin k0_t5_loop.trips) (c0_i32_84 : BitVec 32) : Fin 2 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c0_95 : Index := 0#32
  ![v186.toNat, 0]
def k0_off17 (k0_t5 : Fin k0_t5_loop.trips) (c0_i32_84 : BitVec 32) : Fin 2 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c0_97 : Index := 0#32
  ![v191.toNat, 0]
def k0_mult23 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult24 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult25 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult26 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult27 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult28 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult29 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t6_loop : Scf.Loop 32 :=
  let c0_i32_34 : BitVec 32 := 0#32
  let c28_i32_35 : BitVec 32 := 28#32
  let v70 : BitVec 32 := Scalar.addi c0_i32_34 c28_i32_35
  let c1_i32_36 : BitVec 32 := 1#32
  ⟨c0_i32_34, v70, c1_i32_36⟩
def k0_mult30 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c128_i32 : BitVec 32 := 128#32
  let v139 : BitVec 32 := Scalar.muli arg22 c128_i32
  v139
def k0_off18 (k0_t6 : Fin k0_t6_loop.trips) : Fin 2 → Nat :=
  let c128_83 : Index := 128#32
  let c0_i32_34 : BitVec 32 := 0#32
  let c1_i32_36 : BitVec 32 := 1#32
  let arg22 : BitVec 32 := Scf.iv c0_i32_34 c1_i32_36 k0_t6
  let c128_i32 : BitVec 32 := 128#32
  let v139 : BitVec 32 := Scalar.muli arg22 c128_i32
  let v140 : BitVec 32 := v139
  let v141 : Index := Scalar.indexCast v140
  ![128, v141.toNat]
def k0_off19 (k0_t6 : Fin k0_t6_loop.trips) (c0_i32_86 : BitVec 32) : Fin 2 → Nat :=
  let c0_i32_34 : BitVec 32 := 0#32
  let c1_i32_36 : BitVec 32 := 1#32
  let arg22 : BitVec 32 := Scf.iv c0_i32_34 c1_i32_36 k0_t6
  let c2_i32_85 : BitVec 32 := 2#32
  let v147 : BitVec 32 := Scalar.muli arg22 c2_i32_85
  let v148 : BitVec 32 := Scalar.addi v147 c0_i32_86
  let v149 : Index := Scalar.indexCast v148
  let c128_87 : Index := 128#32
  ![v149.toNat, 128]
def k0_off20 (k0_t6 : Fin k0_t6_loop.trips) (c0_i32_84 : BitVec 32) : Fin 2 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let v156 : Index := Scalar.indexCast v146
  let c128_88 : Index := 128#32
  ![v156.toNat, 128]
def k0_mult31 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off21 (k0_t6 : Fin k0_t6_loop.trips) (c0_i32_84 : BitVec 32) : Fin 2 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c128_95 : Index := 128#32
  ![v186.toNat, 128]
def k0_off22 (k0_t6 : Fin k0_t6_loop.trips) (c0_i32_84 : BitVec 32) : Fin 2 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c128_97 : Index := 128#32
  ![v191.toNat, 128]
def k0_mult32 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult33 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult34 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult35 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult36 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult37 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult38 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t7_loop : Scf.Loop 32 :=
  let c0_i32_75 : BitVec 32 := 0#32
  let c28_i32_76 : BitVec 32 := 28#32
  let v137 : BitVec 32 := Scalar.addi c0_i32_75 c28_i32_76
  let c1_i32_77 : BitVec 32 := 1#32
  ⟨c0_i32_75, v137, c1_i32_77⟩
def k0_mult39 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c128_i32 : BitVec 32 := 128#32
  let v139 : BitVec 32 := Scalar.muli arg22 c128_i32
  v139
def k0_off23 (k0_t7 : Fin k0_t7_loop.trips) : Fin 2 → Nat :=
  let c0_83 : Index := 0#32
  let c0_i32_75 : BitVec 32 := 0#32
  let c1_i32_77 : BitVec 32 := 1#32
  let arg22 : BitVec 32 := Scf.iv c0_i32_75 c1_i32_77 k0_t7
  let c128_i32 : BitVec 32 := 128#32
  let v139 : BitVec 32 := Scalar.muli arg22 c128_i32
  let v140 : BitVec 32 := v139
  let v141 : Index := Scalar.indexCast v140
  ![0, v141.toNat]
def k0_off24 (k0_t7 : Fin k0_t7_loop.trips) (c0_i32_86 : BitVec 32) : Fin 2 → Nat :=
  let c0_i32_75 : BitVec 32 := 0#32
  let c1_i32_77 : BitVec 32 := 1#32
  let arg22 : BitVec 32 := Scf.iv c0_i32_75 c1_i32_77 k0_t7
  let c2_i32_85 : BitVec 32 := 2#32
  let v147 : BitVec 32 := Scalar.muli arg22 c2_i32_85
  let v148 : BitVec 32 := Scalar.addi v147 c0_i32_86
  let v149 : Index := Scalar.indexCast v148
  let c0_87 : Index := 0#32
  ![v149.toNat, 0]
def k0_off25 (k0_t7 : Fin k0_t7_loop.trips) (c0_i32_84 : BitVec 32) : Fin 2 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let v156 : Index := Scalar.indexCast v146
  let c0_88 : Index := 0#32
  ![v156.toNat, 0]
def k0_mult40 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off26 (k0_t7 : Fin k0_t7_loop.trips) (c0_i32_84 : BitVec 32) : Fin 2 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c0_95 : Index := 0#32
  ![v186.toNat, 0]
def k0_off27 (k0_t7 : Fin k0_t7_loop.trips) (c0_i32_84 : BitVec 32) : Fin 2 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c0_97 : Index := 0#32
  ![v191.toNat, 0]
def k0_mult41 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult42 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult43 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult44 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult45 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult46 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult47 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t8_loop : Scf.Loop 32 :=
  let c0_i32_79 : BitVec 32 := 0#32
  let c28_i32_80 : BitVec 32 := 28#32
  let v138 : BitVec 32 := Scalar.addi c0_i32_79 c28_i32_80
  let c1_i32_81 : BitVec 32 := 1#32
  ⟨c0_i32_79, v138, c1_i32_81⟩
def k0_mult48 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c128_i32 : BitVec 32 := 128#32
  let v139 : BitVec 32 := Scalar.muli arg22 c128_i32
  v139
def k0_off28 (k0_t8 : Fin k0_t8_loop.trips) : Fin 2 → Nat :=
  let c128_83 : Index := 128#32
  let c0_i32_79 : BitVec 32 := 0#32
  let c1_i32_81 : BitVec 32 := 1#32
  let arg22 : BitVec 32 := Scf.iv c0_i32_79 c1_i32_81 k0_t8
  let c128_i32 : BitVec 32 := 128#32
  let v139 : BitVec 32 := Scalar.muli arg22 c128_i32
  let v140 : BitVec 32 := v139
  let v141 : Index := Scalar.indexCast v140
  ![128, v141.toNat]
def k0_off29 (k0_t8 : Fin k0_t8_loop.trips) (c0_i32_86 : BitVec 32) : Fin 2 → Nat :=
  let c0_i32_79 : BitVec 32 := 0#32
  let c1_i32_81 : BitVec 32 := 1#32
  let arg22 : BitVec 32 := Scf.iv c0_i32_79 c1_i32_81 k0_t8
  let c2_i32_85 : BitVec 32 := 2#32
  let v147 : BitVec 32 := Scalar.muli arg22 c2_i32_85
  let v148 : BitVec 32 := Scalar.addi v147 c0_i32_86
  let v149 : Index := Scalar.indexCast v148
  let c128_87 : Index := 128#32
  ![v149.toNat, 128]
def k0_off30 (k0_t8 : Fin k0_t8_loop.trips) (c0_i32_84 : BitVec 32) : Fin 2 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let v156 : Index := Scalar.indexCast v146
  let c128_88 : Index := 128#32
  ![v156.toNat, 128]
def k0_mult49 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off31 (k0_t8 : Fin k0_t8_loop.trips) (c0_i32_84 : BitVec 32) : Fin 2 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c128_95 : Index := 128#32
  ![v186.toNat, 128]
def k0_off32 (k0_t8 : Fin k0_t8_loop.trips) (c0_i32_84 : BitVec 32) : Fin 2 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c128_97 : Index := 128#32
  ![v191.toNat, 128]
def k0_mult50 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult51 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult52 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult53 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult54 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult55 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult56 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x224 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x224 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x224 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x56 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
abbrev S2x128x7168 : Shape := ⟨3, ![2, 128, 7168]⟩
abbrev S18432x3584 : Shape := ⟨2, ![18432, 3584]⟩
abbrev S18432x224 : Shape := ⟨2, ![18432, 224]⟩
abbrev S18432x56 : Shape := ⟨2, ![18432, 56]⟩
abbrev S256x7168 : Shape := ⟨2, ![256, 7168]⟩
abbrev S256x18432 : Shape := ⟨2, ![256, 18432]⟩
abbrev S256x1 : Shape := ⟨2, ![256, 1]⟩
abbrev S256x3584 : Shape := ⟨2, ![256, 3584]⟩
abbrev S256x224 : Shape := ⟨2, ![256, 224]⟩
abbrev S256x56 : Shape := ⟨2, ![256, 56]⟩
abbrev S256x512 : Shape := ⟨2, ![256, 512]⟩
abbrev S256x128 : Shape := ⟨2, ![256, 128]⟩
abbrev S224x256 : Shape := ⟨2, ![224, 256]⟩
abbrev S56x256 : Shape := ⟨2, ![56, 256]⟩
abbrev S3584x256 : Shape := ⟨2, ![3584, 256]⟩
abbrev S3584x2x256 : Shape := ⟨3, ![3584, 2, 256]⟩
abbrev S3584x1x256 : Shape := ⟨3, ![3584, 1, 256]⟩
abbrev S256 : Shape := ⟨1, ![256]⟩
abbrev S256x256 : Shape := ⟨2, ![256, 256]⟩
abbrev S256x128x1 : Shape := ⟨3, ![256, 128, 1]⟩
abbrev S128x256 : Shape := ⟨2, ![128, 256]⟩
abbrev S256x96 : Shape := ⟨2, ![256, 96]⟩
abbrev S96x256 : Shape := ⟨2, ![96, 256]⟩
abbrev S8x128 : Shape := ⟨2, ![8, 128]⟩
abbrev S128x128 : Shape := ⟨2, ![128, 128]⟩
abbrev S1x128 : Shape := ⟨2, ![1, 128]⟩
abbrev S16x128 : Shape := ⟨2, ![16, 128]⟩
abbrev S8x2x128 : Shape := ⟨3, ![8, 2, 128]⟩
abbrev S8x1x128 : Shape := ⟨3, ![8, 1, 128]⟩
abbrev S7168x256 : Shape := ⟨2, ![7168, 256]⟩

abbrev nBuf : Space → Nat
  | .hbm => 8
  | .vmem => 28
  | .smem => 0
  | _ => 0

abbrev bufTy : (tb : Table) → Fin (tcTables nBuf tb) → BufTy
  | .hbm, ⟨0, _⟩ => ⟨S2x128x7168, .bf16⟩
  | .hbm, ⟨1, _⟩ => ⟨S18432x3584, .fp8e4m3⟩
  | .hbm, ⟨2, _⟩ => ⟨S18432x224, .i32⟩
  | .hbm, ⟨3, _⟩ => ⟨S18432x56, .f32⟩
  | .hbm, ⟨4, _⟩ => ⟨S256x7168, .bf16⟩
  | .hbm, ⟨5, _⟩ => ⟨S256x18432, .bf16⟩
  | .hbm, ⟨6, _⟩ => ⟨S256x7168, .fp8e4m3⟩
  | .hbm, ⟨7, _⟩ => ⟨S256x1, .f32⟩
  | .local _ .vmem, ⟨0, _⟩ => ⟨S256x7168, .bf16⟩
  | .local _ .vmem, ⟨1, _⟩ => ⟨S256x3584, .fp8e4m3⟩
  | .local _ .vmem, ⟨2, _⟩ => ⟨S256x224, .i32⟩
  | .local _ .vmem, ⟨3, _⟩ => ⟨S256x56, .f32⟩
  | .local _ .vmem, ⟨4, _⟩ => ⟨S256x3584, .fp8e4m3⟩
  | .local _ .vmem, ⟨5, _⟩ => ⟨S256x3584, .fp8e4m3⟩
  | .local _ .vmem, ⟨6, _⟩ => ⟨S256x224, .i32⟩
  | .local _ .vmem, ⟨7, _⟩ => ⟨S256x224, .i32⟩
  | .local _ .vmem, ⟨8, _⟩ => ⟨S256x56, .f32⟩
  | .local _ .vmem, ⟨9, _⟩ => ⟨S256x56, .f32⟩
  | .local _ .vmem, ⟨10, _⟩ => ⟨S256x3584, .fp8e4m3⟩
  | .local _ .vmem, ⟨11, _⟩ => ⟨S256x3584, .fp8e4m3⟩
  | .local _ .vmem, ⟨12, _⟩ => ⟨S256x224, .i32⟩
  | .local _ .vmem, ⟨13, _⟩ => ⟨S256x224, .i32⟩
  | .local _ .vmem, ⟨14, _⟩ => ⟨S256x56, .f32⟩
  | .local _ .vmem, ⟨15, _⟩ => ⟨S256x56, .f32⟩
  | .local _ .vmem, ⟨16, _⟩ => ⟨S256x512, .bf16⟩
  | .local _ .vmem, ⟨17, _⟩ => ⟨S256x512, .bf16⟩
  | .local _ .vmem, ⟨18, _⟩ => ⟨S256x7168, .fp8e4m3⟩
  | .local _ .vmem, ⟨19, _⟩ => ⟨S256x1, .f32⟩
  | .local _ .vmem, ⟨20, _⟩ => ⟨S256x7168, .bf16⟩
  | .local _ .vmem, ⟨21, _⟩ => ⟨S256x128, .f32⟩
  | .local _ .vmem, ⟨22, _⟩ => ⟨S224x256, .i32⟩
  | .local _ .vmem, ⟨23, _⟩ => ⟨S56x256, .f32⟩
  | .local _ .vmem, ⟨24, _⟩ => ⟨S224x256, .i32⟩
  | .local _ .vmem, ⟨25, _⟩ => ⟨S56x256, .f32⟩
  | .local _ .vmem, ⟨26, _⟩ => ⟨S3584x2x256, .bf16⟩
  | .local _ .vmem, ⟨27, _⟩ => ⟨S3584x2x256, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c1_i32_85 : BitVec 32 := 1#32
  let c55_i32 : BitVec 32 := 55#32
  let v142 : BitVec 32 := Scalar.addi c1_i32_85 c55_i32
  let c1_i32_86 : BitVec 32 := 1#32
  ⟨c1_i32_85, v142, c1_i32_86⟩
def k0_mult1 (k0_t1 : Fin k0_t1_loop.trips) : BitVec 32 :=
  let c1_i32_85 : BitVec 32 := 1#32
  let c1_i32_86 : BitVec 32 := 1#32
  let arg22 : BitVec 32 := Scf.iv c1_i32_85 c1_i32_86 k0_t1
  let c128_i32 : BitVec 32 := 128#32
  let v263 : BitVec 32 := Scalar.muli arg22 c128_i32
  v263
def k0_off1 (k0_t1 : Fin k0_t1_loop.trips) : Fin 2 → Nat :=
  let c0_145 : Index := 0#32
  let c1_i32_85 : BitVec 32 := 1#32
  let c1_i32_86 : BitVec 32 := 1#32
  let arg22 : BitVec 32 := Scf.iv c1_i32_85 c1_i32_86 k0_t1
  let c128_i32 : BitVec 32 := 128#32
  let v263 : BitVec 32 := Scalar.muli arg22 c128_i32
  let v264 : BitVec 32 := v263
  let v265 : Index := Scalar.indexCast v264
  ![0, v265.toNat]
@[reducible] def k0_t2_loop : Scf.Loop 32 :=
  let c0_i32_108 : BitVec 32 := 0#32
  let c56_i32 : BitVec 32 := 56#32
  let v208 : BitVec 32 := Scalar.addi c0_i32_108 c56_i32
  let c1_i32_109 : BitVec 32 := 1#32
  ⟨c0_i32_108, v208, c1_i32_109⟩
def k0_mult2 (k0_t2 : Fin k0_t2_loop.trips) : BitVec 32 :=
  let c0_i32_108 : BitVec 32 := 0#32
  let c1_i32_109 : BitVec 32 := 1#32
  let arg22 : BitVec 32 := Scf.iv c0_i32_108 c1_i32_109 k0_t2
  let c128_i32 : BitVec 32 := 128#32
  let v263 : BitVec 32 := Scalar.muli arg22 c128_i32
  v263
def k0_off2 (k0_t2 : Fin k0_t2_loop.trips) : Fin 2 → Nat :=
  let c0_145 : Index := 0#32
  let c0_i32_108 : BitVec 32 := 0#32
  let c1_i32_109 : BitVec 32 := 1#32
  let arg22 : BitVec 32 := Scf.iv c0_i32_108 c1_i32_109 k0_t2
  let c128_i32 : BitVec 32 := 128#32
  let v263 : BitVec 32 := Scalar.muli arg22 c128_i32
  let v264 : BitVec 32 := v263
  let v265 : Index := Scalar.indexCast v264
  ![0, v265.toNat]
@[reducible] def k0_t3_loop : Scf.Loop 32 :=
  let c0_i32_137 : BitVec 32 := 0#32
  let c28_i32_138 : BitVec 32 := 28#32
  let v261 : BitVec 32 := Scalar.addi c0_i32_137 c28_i32_138
  let c1_i32_139 : BitVec 32 := 1#32
  ⟨c0_i32_137, v261, c1_i32_139⟩
def k0_mult3 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c128_i32 : BitVec 32 := 128#32
  let v263 : BitVec 32 := Scalar.muli arg22 c128_i32
  v263
def k0_off3 (k0_t3 : Fin k0_t3_loop.trips) : Fin 2 → Nat :=
  let c0_145 : Index := 0#32
  let c0_i32_137 : BitVec 32 := 0#32
  let c1_i32_139 : BitVec 32 := 1#32
  let arg22 : BitVec 32 := Scf.iv c0_i32_137 c1_i32_139 k0_t3
  let c128_i32 : BitVec 32 := 128#32
  let v263 : BitVec 32 := Scalar.muli arg22 c128_i32
  let v264 : BitVec 32 := v263
  let v265 : Index := Scalar.indexCast v264
  ![0, v265.toNat]
def k0_off4 (k0_t3 : Fin k0_t3_loop.trips) (c0_i32_148 : BitVec 32) : Fin 2 → Nat :=
  let c0_i32_137 : BitVec 32 := 0#32
  let c1_i32_139 : BitVec 32 := 1#32
  let arg22 : BitVec 32 := Scf.iv c0_i32_137 c1_i32_139 k0_t3
  let c2_i32_147 : BitVec 32 := 2#32
  let v271 : BitVec 32 := Scalar.muli arg22 c2_i32_147
  let v272 : BitVec 32 := Scalar.addi v271 c0_i32_148
  let v273 : Index := Scalar.indexCast v272
  let c0_149 : Index := 0#32
  ![v273.toNat, 0]
def k0_off5 (k0_t3 : Fin k0_t3_loop.trips) (c0_i32_146 : BitVec 32) : Fin 2 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let v280 : Index := Scalar.indexCast v270
  let c0_150 : Index := 0#32
  ![v280.toNat, 0]
def k0_mult4 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let c0_i32_146 : BitVec 32 := 0#32
  let v270 : BitVec 32 := Scalar.addi v269 c0_i32_146
  let c16_i32_156 : BitVec 32 := 16#32
  let v308 : BitVec 32 := Scalar.muli v270 c16_i32_156
  v308
def k0_off6 (k0_t3 : Fin k0_t3_loop.trips) (c0_i32_146 : BitVec 32) : Fin 3 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let v310 : Index := Scalar.indexCast v309
  let c0_157 : Index := 0#32
  ![v310.toNat, 0, 0]
def k0_off7 (k0_t3 : Fin k0_t3_loop.trips) (c0_i32_146 : BitVec 32) : Fin 3 → Nat :=
  let c0_i32_137 : BitVec 32 := 0#32
  let c1_i32_139 : BitVec 32 := 1#32
  let arg22 : BitVec 32 := Scf.iv c0_i32_137 c1_i32_139 k0_t3
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let c8_i32_158 : BitVec 32 := 8#32
  let v314 : BitVec 32 := Scalar.addi v309 c8_i32_158
  let v315 : Index := Scalar.indexCast v314
  let c0_159 : Index := 0#32
  ![v315.toNat, 0, 0]
def k0_mult5 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_160 : BitVec 32 := 8#32
  let v319 : BitVec 32 := Scalar.muli arg22 c8_i32_160
  let c1_i32_161 : BitVec 32 := 1#32
  let v320 : BitVec 32 := Scalar.addi v319 c1_i32_161
  let c16_i32_175 : BitVec 32 := 16#32
  let v358 : BitVec 32 := Scalar.muli v320 c16_i32_175
  v358
def k0_mult6 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_179 : BitVec 32 := 8#32
  let v369 : BitVec 32 := Scalar.muli arg22 c8_i32_179
  let c2_i32_180 : BitVec 32 := 2#32
  let v370 : BitVec 32 := Scalar.addi v369 c2_i32_180
  let c16_i32_194 : BitVec 32 := 16#32
  let v408 : BitVec 32 := Scalar.muli v370 c16_i32_194
  v408
def k0_mult7 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_198 : BitVec 32 := 8#32
  let v419 : BitVec 32 := Scalar.muli arg22 c8_i32_198
  let c3_i32_199 : BitVec 32 := 3#32
  let v420 : BitVec 32 := Scalar.addi v419 c3_i32_199
  let c16_i32_213 : BitVec 32 := 16#32
  let v458 : BitVec 32 := Scalar.muli v420 c16_i32_213
  v458
def k0_mult8 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_217 : BitVec 32 := 8#32
  let v469 : BitVec 32 := Scalar.muli arg22 c8_i32_217
  let c4_i32_218 : BitVec 32 := 4#32
  let v470 : BitVec 32 := Scalar.addi v469 c4_i32_218
  let c16_i32_232 : BitVec 32 := 16#32
  let v508 : BitVec 32 := Scalar.muli v470 c16_i32_232
  v508
def k0_mult9 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_236 : BitVec 32 := 8#32
  let v519 : BitVec 32 := Scalar.muli arg22 c8_i32_236
  let c5_i32 : BitVec 32 := 5#32
  let v520 : BitVec 32 := Scalar.addi v519 c5_i32
  let c16_i32_250 : BitVec 32 := 16#32
  let v558 : BitVec 32 := Scalar.muli v520 c16_i32_250
  v558
def k0_mult10 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_254 : BitVec 32 := 8#32
  let v569 : BitVec 32 := Scalar.muli arg22 c8_i32_254
  let c6_i32 : BitVec 32 := 6#32
  let v570 : BitVec 32 := Scalar.addi v569 c6_i32
  let c16_i32_268 : BitVec 32 := 16#32
  let v608 : BitVec 32 := Scalar.muli v570 c16_i32_268
  v608
def k0_mult11 (k0_t3 : Fin k0_t3_loop.trips) : BitVec 32 :=
  let c0_i32_137 : BitVec 32 := 0#32
  let c1_i32_139 : BitVec 32 := 1#32
  let arg22 : BitVec 32 := Scf.iv c0_i32_137 c1_i32_139 k0_t3
  let c8_i32_272 : BitVec 32 := 8#32
  let v619 : BitVec 32 := Scalar.muli arg22 c8_i32_272
  let c7_i32 : BitVec 32 := 7#32
  let v620 : BitVec 32 := Scalar.addi v619 c7_i32
  let c16_i32_286 : BitVec 32 := 16#32
  let v658 : BitVec 32 := Scalar.muli v620 c16_i32_286
  v658
@[reducible] def k0_t4_loop : Scf.Loop 32 :=
  let c0_i32_141 : BitVec 32 := 0#32
  let c28_i32_142 : BitVec 32 := 28#32
  let v262 : BitVec 32 := Scalar.addi c0_i32_141 c28_i32_142
  let c1_i32_143 : BitVec 32 := 1#32
  ⟨c0_i32_141, v262, c1_i32_143⟩
def k0_mult12 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c128_i32 : BitVec 32 := 128#32
  let v263 : BitVec 32 := Scalar.muli arg22 c128_i32
  v263
def k0_off8 (k0_t4 : Fin k0_t4_loop.trips) : Fin 2 → Nat :=
  let c128_145 : Index := 128#32
  let c0_i32_141 : BitVec 32 := 0#32
  let c1_i32_143 : BitVec 32 := 1#32
  let arg22 : BitVec 32 := Scf.iv c0_i32_141 c1_i32_143 k0_t4
  let c128_i32 : BitVec 32 := 128#32
  let v263 : BitVec 32 := Scalar.muli arg22 c128_i32
  let v264 : BitVec 32 := v263
  let v265 : Index := Scalar.indexCast v264
  ![128, v265.toNat]
def k0_off9 (k0_t4 : Fin k0_t4_loop.trips) (c0_i32_148 : BitVec 32) : Fin 2 → Nat :=
  let c0_i32_141 : BitVec 32 := 0#32
  let c1_i32_143 : BitVec 32 := 1#32
  let arg22 : BitVec 32 := Scf.iv c0_i32_141 c1_i32_143 k0_t4
  let c2_i32_147 : BitVec 32 := 2#32
  let v271 : BitVec 32 := Scalar.muli arg22 c2_i32_147
  let v272 : BitVec 32 := Scalar.addi v271 c0_i32_148
  let v273 : Index := Scalar.indexCast v272
  let c128_149 : Index := 128#32
  ![v273.toNat, 128]
def k0_off10 (k0_t4 : Fin k0_t4_loop.trips) (c0_i32_146 : BitVec 32) : Fin 2 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let v280 : Index := Scalar.indexCast v270
  let c128_150 : Index := 128#32
  ![v280.toNat, 128]
def k0_mult13 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let c0_i32_146 : BitVec 32 := 0#32
  let v270 : BitVec 32 := Scalar.addi v269 c0_i32_146
  let c16_i32_156 : BitVec 32 := 16#32
  let v308 : BitVec 32 := Scalar.muli v270 c16_i32_156
  v308
def k0_off11 (k0_t4 : Fin k0_t4_loop.trips) (c0_i32_146 : BitVec 32) : Fin 3 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let v310 : Index := Scalar.indexCast v309
  let c128_157 : Index := 128#32
  ![v310.toNat, 0, 128]
def k0_off12 (k0_t4 : Fin k0_t4_loop.trips) (c0_i32_146 : BitVec 32) : Fin 3 → Nat :=
  let c0_i32_141 : BitVec 32 := 0#32
  let c1_i32_143 : BitVec 32 := 1#32
  let arg22 : BitVec 32 := Scf.iv c0_i32_141 c1_i32_143 k0_t4
  let c8_i32 : BitVec 32 := 8#32
  let v269 : BitVec 32 := Scalar.muli arg22 c8_i32
  let v270 : BitVec 32 := Scalar.addi v269 c0_i32_146
  let c16_i32_156 : BitVec 32 := 16#32
  let v308 : BitVec 32 := Scalar.muli v270 c16_i32_156
  let v309 : BitVec 32 := v308
  let c8_i32_158 : BitVec 32 := 8#32
  let v314 : BitVec 32 := Scalar.addi v309 c8_i32_158
  let v315 : Index := Scalar.indexCast v314
  let c128_159 : Index := 128#32
  ![v315.toNat, 0, 128]
def k0_mult14 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_160 : BitVec 32 := 8#32
  let v319 : BitVec 32 := Scalar.muli arg22 c8_i32_160
  let c1_i32_161 : BitVec 32 := 1#32
  let v320 : BitVec 32 := Scalar.addi v319 c1_i32_161
  let c16_i32_175 : BitVec 32 := 16#32
  let v358 : BitVec 32 := Scalar.muli v320 c16_i32_175
  v358
def k0_mult15 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_179 : BitVec 32 := 8#32
  let v369 : BitVec 32 := Scalar.muli arg22 c8_i32_179
  let c2_i32_180 : BitVec 32 := 2#32
  let v370 : BitVec 32 := Scalar.addi v369 c2_i32_180
  let c16_i32_194 : BitVec 32 := 16#32
  let v408 : BitVec 32 := Scalar.muli v370 c16_i32_194
  v408
def k0_mult16 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_198 : BitVec 32 := 8#32
  let v419 : BitVec 32 := Scalar.muli arg22 c8_i32_198
  let c3_i32_199 : BitVec 32 := 3#32
  let v420 : BitVec 32 := Scalar.addi v419 c3_i32_199
  let c16_i32_213 : BitVec 32 := 16#32
  let v458 : BitVec 32 := Scalar.muli v420 c16_i32_213
  v458
def k0_mult17 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_217 : BitVec 32 := 8#32
  let v469 : BitVec 32 := Scalar.muli arg22 c8_i32_217
  let c4_i32_218 : BitVec 32 := 4#32
  let v470 : BitVec 32 := Scalar.addi v469 c4_i32_218
  let c16_i32_232 : BitVec 32 := 16#32
  let v508 : BitVec 32 := Scalar.muli v470 c16_i32_232
  v508
def k0_mult18 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_236 : BitVec 32 := 8#32
  let v519 : BitVec 32 := Scalar.muli arg22 c8_i32_236
  let c5_i32 : BitVec 32 := 5#32
  let v520 : BitVec 32 := Scalar.addi v519 c5_i32
  let c16_i32_250 : BitVec 32 := 16#32
  let v558 : BitVec 32 := Scalar.muli v520 c16_i32_250
  v558
def k0_mult19 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_254 : BitVec 32 := 8#32
  let v569 : BitVec 32 := Scalar.muli arg22 c8_i32_254
  let c6_i32 : BitVec 32 := 6#32
  let v570 : BitVec 32 := Scalar.addi v569 c6_i32
  let c16_i32_268 : BitVec 32 := 16#32
  let v608 : BitVec 32 := Scalar.muli v570 c16_i32_268
  v608
def k0_mult20 (k0_t4 : Fin k0_t4_loop.trips) : BitVec 32 :=
  let c0_i32_141 : BitVec 32 := 0#32
  let c1_i32_143 : BitVec 32 := 1#32
  let arg22 : BitVec 32 := Scf.iv c0_i32_141 c1_i32_143 k0_t4
  let c8_i32_272 : BitVec 32 := 8#32
  let v619 : BitVec 32 := Scalar.muli arg22 c8_i32_272
  let c7_i32 : BitVec 32 := 7#32
  let v620 : BitVec 32 := Scalar.addi v619 c7_i32
  let c16_i32_286 : BitVec 32 := 16#32
  let v658 : BitVec 32 := Scalar.muli v620 c16_i32_286
  v658
@[reducible] def k0_t5_loop : Scf.Loop 32 :=
  let c0_i32_30 : BitVec 32 := 0#32
  let c28_i32_31 : BitVec 32 := 28#32
  let v69 : BitVec 32 := Scalar.addi c0_i32_30 c28_i32_31
  let c1_i32_32 : BitVec 32 := 1#32
  ⟨c0_i32_30, v69, c1_i32_32⟩
def k0_mult21 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c128_i32 : BitVec 32 := 128#32
  let v139 : BitVec 32 := Scalar.muli arg22 c128_i32
  v139
def k0_off13 (k0_t5 : Fin k0_t5_loop.trips) : Fin 2 → Nat :=
  let c0_83 : Index := 0#32
  let c0_i32_30 : BitVec 32 := 0#32
  let c1_i32_32 : BitVec 32 := 1#32
  let arg22 : BitVec 32 := Scf.iv c0_i32_30 c1_i32_32 k0_t5
  let c128_i32 : BitVec 32 := 128#32
  let v139 : BitVec 32 := Scalar.muli arg22 c128_i32
  let v140 : BitVec 32 := v139
  let v141 : Index := Scalar.indexCast v140
  ![0, v141.toNat]
def k0_off14 (k0_t5 : Fin k0_t5_loop.trips) (c0_i32_86 : BitVec 32) : Fin 2 → Nat :=
  let c0_i32_30 : BitVec 32 := 0#32
  let c1_i32_32 : BitVec 32 := 1#32
  let arg22 : BitVec 32 := Scf.iv c0_i32_30 c1_i32_32 k0_t5
  let c2_i32_85 : BitVec 32 := 2#32
  let v147 : BitVec 32 := Scalar.muli arg22 c2_i32_85
  let v148 : BitVec 32 := Scalar.addi v147 c0_i32_86
  let v149 : Index := Scalar.indexCast v148
  let c0_87 : Index := 0#32
  ![v149.toNat, 0]
def k0_off15 (k0_t5 : Fin k0_t5_loop.trips) (c0_i32_84 : BitVec 32) : Fin 2 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let v156 : Index := Scalar.indexCast v146
  let c0_88 : Index := 0#32
  ![v156.toNat, 0]
def k0_mult22 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off16 (k0_t5 : Fin k0_t5_loop.trips) (c0_i32_84 : BitVec 32) : Fin 3 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c0_95 : Index := 0#32
  ![v186.toNat, 0, 0]
def k0_off17 (k0_t5 : Fin k0_t5_loop.trips) (c0_i32_84 : BitVec 32) : Fin 3 → Nat :=
  let c0_i32_30 : BitVec 32 := 0#32
  let c1_i32_32 : BitVec 32 := 1#32
  let arg22 : BitVec 32 := Scf.iv c0_i32_30 c1_i32_32 k0_t5
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c0_97 : Index := 0#32
  ![v191.toNat, 0, 0]
def k0_mult23 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult24 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult25 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult26 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult27 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult28 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult29 (k0_t5 : Fin k0_t5_loop.trips) : BitVec 32 :=
  let c0_i32_30 : BitVec 32 := 0#32
  let c1_i32_32 : BitVec 32 := 1#32
  let arg22 : BitVec 32 := Scf.iv c0_i32_30 c1_i32_32 k0_t5
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t6_loop : Scf.Loop 32 :=
  let c0_i32_34 : BitVec 32 := 0#32
  let c28_i32_35 : BitVec 32 := 28#32
  let v70 : BitVec 32 := Scalar.addi c0_i32_34 c28_i32_35
  let c1_i32_36 : BitVec 32 := 1#32
  ⟨c0_i32_34, v70, c1_i32_36⟩
def k0_mult30 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c128_i32 : BitVec 32 := 128#32
  let v139 : BitVec 32 := Scalar.muli arg22 c128_i32
  v139
def k0_off18 (k0_t6 : Fin k0_t6_loop.trips) : Fin 2 → Nat :=
  let c128_83 : Index := 128#32
  let c0_i32_34 : BitVec 32 := 0#32
  let c1_i32_36 : BitVec 32 := 1#32
  let arg22 : BitVec 32 := Scf.iv c0_i32_34 c1_i32_36 k0_t6
  let c128_i32 : BitVec 32 := 128#32
  let v139 : BitVec 32 := Scalar.muli arg22 c128_i32
  let v140 : BitVec 32 := v139
  let v141 : Index := Scalar.indexCast v140
  ![128, v141.toNat]
def k0_off19 (k0_t6 : Fin k0_t6_loop.trips) (c0_i32_86 : BitVec 32) : Fin 2 → Nat :=
  let c0_i32_34 : BitVec 32 := 0#32
  let c1_i32_36 : BitVec 32 := 1#32
  let arg22 : BitVec 32 := Scf.iv c0_i32_34 c1_i32_36 k0_t6
  let c2_i32_85 : BitVec 32 := 2#32
  let v147 : BitVec 32 := Scalar.muli arg22 c2_i32_85
  let v148 : BitVec 32 := Scalar.addi v147 c0_i32_86
  let v149 : Index := Scalar.indexCast v148
  let c128_87 : Index := 128#32
  ![v149.toNat, 128]
def k0_off20 (k0_t6 : Fin k0_t6_loop.trips) (c0_i32_84 : BitVec 32) : Fin 2 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let v156 : Index := Scalar.indexCast v146
  let c128_88 : Index := 128#32
  ![v156.toNat, 128]
def k0_mult31 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off21 (k0_t6 : Fin k0_t6_loop.trips) (c0_i32_84 : BitVec 32) : Fin 3 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c128_95 : Index := 128#32
  ![v186.toNat, 0, 128]
def k0_off22 (k0_t6 : Fin k0_t6_loop.trips) (c0_i32_84 : BitVec 32) : Fin 3 → Nat :=
  let c0_i32_34 : BitVec 32 := 0#32
  let c1_i32_36 : BitVec 32 := 1#32
  let arg22 : BitVec 32 := Scf.iv c0_i32_34 c1_i32_36 k0_t6
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c128_97 : Index := 128#32
  ![v191.toNat, 0, 128]
def k0_mult32 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult33 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult34 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult35 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult36 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult37 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult38 (k0_t6 : Fin k0_t6_loop.trips) : BitVec 32 :=
  let c0_i32_34 : BitVec 32 := 0#32
  let c1_i32_36 : BitVec 32 := 1#32
  let arg22 : BitVec 32 := Scf.iv c0_i32_34 c1_i32_36 k0_t6
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t7_loop : Scf.Loop 32 :=
  let c0_i32_75 : BitVec 32 := 0#32
  let c28_i32_76 : BitVec 32 := 28#32
  let v137 : BitVec 32 := Scalar.addi c0_i32_75 c28_i32_76
  let c1_i32_77 : BitVec 32 := 1#32
  ⟨c0_i32_75, v137, c1_i32_77⟩
def k0_mult39 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c128_i32 : BitVec 32 := 128#32
  let v139 : BitVec 32 := Scalar.muli arg22 c128_i32
  v139
def k0_off23 (k0_t7 : Fin k0_t7_loop.trips) : Fin 2 → Nat :=
  let c0_83 : Index := 0#32
  let c0_i32_75 : BitVec 32 := 0#32
  let c1_i32_77 : BitVec 32 := 1#32
  let arg22 : BitVec 32 := Scf.iv c0_i32_75 c1_i32_77 k0_t7
  let c128_i32 : BitVec 32 := 128#32
  let v139 : BitVec 32 := Scalar.muli arg22 c128_i32
  let v140 : BitVec 32 := v139
  let v141 : Index := Scalar.indexCast v140
  ![0, v141.toNat]
def k0_off24 (k0_t7 : Fin k0_t7_loop.trips) (c0_i32_86 : BitVec 32) : Fin 2 → Nat :=
  let c0_i32_75 : BitVec 32 := 0#32
  let c1_i32_77 : BitVec 32 := 1#32
  let arg22 : BitVec 32 := Scf.iv c0_i32_75 c1_i32_77 k0_t7
  let c2_i32_85 : BitVec 32 := 2#32
  let v147 : BitVec 32 := Scalar.muli arg22 c2_i32_85
  let v148 : BitVec 32 := Scalar.addi v147 c0_i32_86
  let v149 : Index := Scalar.indexCast v148
  let c0_87 : Index := 0#32
  ![v149.toNat, 0]
def k0_off25 (k0_t7 : Fin k0_t7_loop.trips) (c0_i32_84 : BitVec 32) : Fin 2 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let v156 : Index := Scalar.indexCast v146
  let c0_88 : Index := 0#32
  ![v156.toNat, 0]
def k0_mult40 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off26 (k0_t7 : Fin k0_t7_loop.trips) (c0_i32_84 : BitVec 32) : Fin 3 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c0_95 : Index := 0#32
  ![v186.toNat, 0, 0]
def k0_off27 (k0_t7 : Fin k0_t7_loop.trips) (c0_i32_84 : BitVec 32) : Fin 3 → Nat :=
  let c0_i32_75 : BitVec 32 := 0#32
  let c1_i32_77 : BitVec 32 := 1#32
  let arg22 : BitVec 32 := Scf.iv c0_i32_75 c1_i32_77 k0_t7
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c0_97 : Index := 0#32
  ![v191.toNat, 0, 0]
def k0_mult41 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult42 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult43 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult44 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult45 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult46 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult47 (k0_t7 : Fin k0_t7_loop.trips) : BitVec 32 :=
  let c0_i32_75 : BitVec 32 := 0#32
  let c1_i32_77 : BitVec 32 := 1#32
  let arg22 : BitVec 32 := Scf.iv c0_i32_75 c1_i32_77 k0_t7
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
@[reducible] def k0_t8_loop : Scf.Loop 32 :=
  let c0_i32_79 : BitVec 32 := 0#32
  let c28_i32_80 : BitVec 32 := 28#32
  let v138 : BitVec 32 := Scalar.addi c0_i32_79 c28_i32_80
  let c1_i32_81 : BitVec 32 := 1#32
  ⟨c0_i32_79, v138, c1_i32_81⟩
def k0_mult48 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c128_i32 : BitVec 32 := 128#32
  let v139 : BitVec 32 := Scalar.muli arg22 c128_i32
  v139
def k0_off28 (k0_t8 : Fin k0_t8_loop.trips) : Fin 2 → Nat :=
  let c128_83 : Index := 128#32
  let c0_i32_79 : BitVec 32 := 0#32
  let c1_i32_81 : BitVec 32 := 1#32
  let arg22 : BitVec 32 := Scf.iv c0_i32_79 c1_i32_81 k0_t8
  let c128_i32 : BitVec 32 := 128#32
  let v139 : BitVec 32 := Scalar.muli arg22 c128_i32
  let v140 : BitVec 32 := v139
  let v141 : Index := Scalar.indexCast v140
  ![128, v141.toNat]
def k0_off29 (k0_t8 : Fin k0_t8_loop.trips) (c0_i32_86 : BitVec 32) : Fin 2 → Nat :=
  let c0_i32_79 : BitVec 32 := 0#32
  let c1_i32_81 : BitVec 32 := 1#32
  let arg22 : BitVec 32 := Scf.iv c0_i32_79 c1_i32_81 k0_t8
  let c2_i32_85 : BitVec 32 := 2#32
  let v147 : BitVec 32 := Scalar.muli arg22 c2_i32_85
  let v148 : BitVec 32 := Scalar.addi v147 c0_i32_86
  let v149 : Index := Scalar.indexCast v148
  let c128_87 : Index := 128#32
  ![v149.toNat, 128]
def k0_off30 (k0_t8 : Fin k0_t8_loop.trips) (c0_i32_84 : BitVec 32) : Fin 2 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let v156 : Index := Scalar.indexCast v146
  let c128_88 : Index := 128#32
  ![v156.toNat, 128]
def k0_mult49 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let c0_i32_84 : BitVec 32 := 0#32
  let v146 : BitVec 32 := Scalar.addi v145 c0_i32_84
  let c16_i32_94 : BitVec 32 := 16#32
  let v184 : BitVec 32 := Scalar.muli v146 c16_i32_94
  v184
def k0_off31 (k0_t8 : Fin k0_t8_loop.trips) (c0_i32_84 : BitVec 32) : Fin 3 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let v186 : Index := Scalar.indexCast v185
  let c128_95 : Index := 128#32
  ![v186.toNat, 0, 128]
def k0_off32 (k0_t8 : Fin k0_t8_loop.trips) (c0_i32_84 : BitVec 32) : Fin 3 → Nat :=
  let c0_i32_79 : BitVec 32 := 0#32
  let c1_i32_81 : BitVec 32 := 1#32
  let arg22 : BitVec 32 := Scf.iv c0_i32_79 c1_i32_81 k0_t8
  let c8_i32 : BitVec 32 := 8#32
  let v145 : BitVec 32 := Scalar.muli arg22 c8_i32
  let v146 : BitVec 32 := Scalar.addi v145 c0_i32_84
  let c16_i32_94 : BitVec 32 := 16#32
  let v184 : BitVec 32 := Scalar.muli v146 c16_i32_94
  let v185 : BitVec 32 := v184
  let c8_i32_96 : BitVec 32 := 8#32
  let v190 : BitVec 32 := Scalar.addi v185 c8_i32_96
  let v191 : Index := Scalar.indexCast v190
  let c128_97 : Index := 128#32
  ![v191.toNat, 0, 128]
def k0_mult50 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_98 : BitVec 32 := 8#32
  let v195 : BitVec 32 := Scalar.muli arg22 c8_i32_98
  let c1_i32_99 : BitVec 32 := 1#32
  let v196 : BitVec 32 := Scalar.addi v195 c1_i32_99
  let c16_i32_113 : BitVec 32 := 16#32
  let v234 : BitVec 32 := Scalar.muli v196 c16_i32_113
  v234
def k0_mult51 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_117 : BitVec 32 := 8#32
  let v245 : BitVec 32 := Scalar.muli arg22 c8_i32_117
  let c2_i32_118 : BitVec 32 := 2#32
  let v246 : BitVec 32 := Scalar.addi v245 c2_i32_118
  let c16_i32_132 : BitVec 32 := 16#32
  let v284 : BitVec 32 := Scalar.muli v246 c16_i32_132
  v284
def k0_mult52 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_136 : BitVec 32 := 8#32
  let v295 : BitVec 32 := Scalar.muli arg22 c8_i32_136
  let c3_i32 : BitVec 32 := 3#32
  let v296 : BitVec 32 := Scalar.addi v295 c3_i32
  let c16_i32_150 : BitVec 32 := 16#32
  let v334 : BitVec 32 := Scalar.muli v296 c16_i32_150
  v334
def k0_mult53 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_154 : BitVec 32 := 8#32
  let v345 : BitVec 32 := Scalar.muli arg22 c8_i32_154
  let c4_i32_155 : BitVec 32 := 4#32
  let v346 : BitVec 32 := Scalar.addi v345 c4_i32_155
  let c16_i32_169 : BitVec 32 := 16#32
  let v384 : BitVec 32 := Scalar.muli v346 c16_i32_169
  v384
def k0_mult54 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_173 : BitVec 32 := 8#32
  let v395 : BitVec 32 := Scalar.muli arg22 c8_i32_173
  let c5_i32 : BitVec 32 := 5#32
  let v396 : BitVec 32 := Scalar.addi v395 c5_i32
  let c16_i32_187 : BitVec 32 := 16#32
  let v434 : BitVec 32 := Scalar.muli v396 c16_i32_187
  v434
def k0_mult55 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_191 : BitVec 32 := 8#32
  let v445 : BitVec 32 := Scalar.muli arg22 c8_i32_191
  let c6_i32 : BitVec 32 := 6#32
  let v446 : BitVec 32 := Scalar.addi v445 c6_i32
  let c16_i32_205 : BitVec 32 := 16#32
  let v484 : BitVec 32 := Scalar.muli v446 c16_i32_205
  v484
def k0_mult56 (k0_t8 : Fin k0_t8_loop.trips) : BitVec 32 :=
  let c0_i32_79 : BitVec 32 := 0#32
  let c1_i32_81 : BitVec 32 := 1#32
  let arg22 : BitVec 32 := Scf.iv c0_i32_79 c1_i32_81 k0_t8
  let c8_i32_209 : BitVec 32 := 8#32
  let v495 : BitVec 32 := Scalar.muli arg22 c8_i32_209
  let c7_i32 : BitVec 32 := 7#32
  let v496 : BitVec 32 := Scalar.addi v495 c7_i32
  let c16_i32_223 : BitVec 32 := 16#32
  let v534 : BitVec 32 := Scalar.muli v496 c16_i32_223
  v534
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c71_i32 : BitVec 32 := 71#32
  let v2 : BitVec 32 := Scalar.minsi v1 c71_i32
  let c0_i32 : BitVec 32 := 0#32
  let c0_i32_1 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x224 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x224 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x224 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x56 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x128x7168 : Shape := ⟨3, ![2, 128, 7168]⟩
abbrev S18432x3584 : Shape := ⟨2, ![18432, 3584]⟩
abbrev S18432x224 : Shape := ⟨2, ![18432, 224]⟩
abbrev S18432x56 : Shape := ⟨2, ![18432, 56]⟩
abbrev S256x7168 : Shape := ⟨2, ![256, 7168]⟩
abbrev S256x1 : Shape := ⟨2, ![256, 1]⟩
abbrev S256 : Shape := ⟨1, ![256]⟩
abbrev S256x254 : Shape := ⟨2, ![256, 254]⟩
abbrev S8 : Shape := ⟨1, ![8]⟩
abbrev S18432x224x1 : Shape := ⟨3, ![18432, 224, 1]⟩
abbrev S_ : Shape := ⟨0, ![]⟩
abbrev S1x1x8 : Shape := ⟨3, ![1, 1, 8]⟩
abbrev S18432x224x8 : Shape := ⟨3, ![18432, 224, 8]⟩
abbrev S18432x224x8x2 : Shape := ⟨4, ![18432, 224, 8, 2]⟩
abbrev S18432x224x8x1 : Shape := ⟨4, ![18432, 224, 8, 1]⟩
abbrev S4 : Shape := ⟨1, ![4]⟩
abbrev S1x4x1x1 : Shape := ⟨4, ![1, 4, 1, 1]⟩
abbrev S18432x1x224x8 : Shape := ⟨4, ![18432, 1, 224, 8]⟩
abbrev S18432x4x224x8 : Shape := ⟨4, ![18432, 4, 224, 8]⟩
abbrev S18432x4x56x32 : Shape := ⟨4, ![18432, 4, 56, 32]⟩
abbrev S18432x1x56x1 : Shape := ⟨4, ![18432, 1, 56, 1]⟩
abbrev S18432x4x1792 : Shape := ⟨3, ![18432, 4, 1792]⟩
abbrev S256x1792x4 : Shape := ⟨3, ![256, 1792, 4]⟩
abbrev S256x4x1792 : Shape := ⟨3, ![256, 4, 1792]⟩
abbrev S256x18432 : Shape := ⟨2, ![256, 18432]⟩

abbrev nBuf : Space → Nat
  | .hbm => 69
  | .vmem => 6
  | .smem => 0
  | _ => 0

abbrev bufTy : (tb : Table) → Fin (tcTables nBuf tb) → BufTy
  | .hbm, ⟨0, _⟩ => ⟨S2x128x7168, .bf16⟩
  | .hbm, ⟨1, _⟩ => ⟨S18432x3584, .fp8e4m3⟩
  | .hbm, ⟨2, _⟩ => ⟨S18432x224, .i32⟩
  | .hbm, ⟨3, _⟩ => ⟨S18432x56, .f32⟩
  | .hbm, ⟨4, _⟩ => ⟨S256x7168, .bf16⟩
  | .hbm, ⟨5, _⟩ => ⟨S256x7168, .fp8e4m3⟩
  | .hbm, ⟨6, _⟩ => ⟨S256x1, .f32⟩
  | .hbm, ⟨7, _⟩ => ⟨S256x7168, .bf16⟩
  | .hbm, ⟨8, _⟩ => ⟨S18432x3584, .bf16⟩
  | .hbm, ⟨9, _⟩ => ⟨S8, .i32⟩
  | .hbm, ⟨10, _⟩ => ⟨S18432x224x1, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S1x1x8, .i32⟩
  | .hbm, ⟨15, _⟩ => ⟨S18432x224x8, .i32⟩
  | .hbm, ⟨16, _⟩ => ⟨S18432x224x8, .i32⟩
  | .hbm, ⟨17, _⟩ => ⟨S18432x224x8, .i32⟩
  | .hbm, ⟨18, _⟩ => ⟨S_, .i32⟩
  | .hbm, ⟨19, _⟩ => ⟨S18432x224x8, .i32⟩
  | .hbm, ⟨20, _⟩ => ⟨S18432x224x8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S1x1x8, .i32⟩
  | .hbm, ⟨28, _⟩ => ⟨S18432x224x8, .i32⟩
  | .hbm, ⟨29, _⟩ => ⟨S18432x224x8, .i32⟩
  | .hbm, ⟨30, _⟩ => ⟨S18432x224x8, .i32⟩
  | .hbm, ⟨31, _⟩ => ⟨S_, .i32⟩
  | .hbm, ⟨32, _⟩ => ⟨S18432x224x8, .i32⟩
  | .hbm, ⟨33, _⟩ => ⟨S18432x224x8, .i32⟩
  | .hbm, ⟨34, _⟩ => ⟨S18432x224x8x2, .bf16⟩
  | .hbm, ⟨35, _⟩ => ⟨S18432x224x8x1, .bf16⟩
  | .hbm, ⟨36, _⟩ => ⟨S18432x224x8, .bf16⟩
  | .hbm, ⟨37, _⟩ => ⟨S18432x224x8x1, .bf16⟩
  | .hbm, ⟨38, _⟩ => ⟨S18432x224x8, .bf16⟩
  | .hbm, ⟨39, _⟩ => ⟨S4, .i32⟩
  | .hbm, ⟨40, _⟩ => ⟨S1x4x1x1, .i32⟩
  | .hbm, ⟨41, _⟩ => ⟨S18432x1x224x8, .i32⟩
  | .hbm, ⟨42, _⟩ => ⟨S18432x4x224x8, .i32⟩
  | .hbm, ⟨43, _⟩ => ⟨S18432x4x224x8, .i32⟩
  | .hbm, ⟨44, _⟩ => ⟨S18432x4x224x8, .i1⟩
  | .hbm, ⟨45, _⟩ => ⟨S18432x1x224x8, .bf16⟩
  | .hbm, ⟨46, _⟩ => ⟨S18432x1x224x8, .i32⟩
  | .hbm, ⟨47, _⟩ => ⟨S18432x4x224x8, .i32⟩
  | .hbm, ⟨48, _⟩ => ⟨S18432x4x224x8, .i32⟩
  | .hbm, ⟨49, _⟩ => ⟨S18432x4x224x8, .i1⟩
  | .hbm, ⟨50, _⟩ => ⟨S18432x1x224x8, .bf16⟩
  | .hbm, ⟨51, _⟩ => ⟨S_, .bf16⟩
  | .hbm, ⟨52, _⟩ => ⟨S18432x4x224x8, .bf16⟩
  | .hbm, ⟨53, _⟩ => ⟨S18432x4x224x8, .bf16⟩
  | .hbm, ⟨54, _⟩ => ⟨S18432x4x224x8, .bf16⟩
  | .hbm, ⟨55, _⟩ => ⟨S18432x4x224x8, .bf16⟩
  | .hbm, ⟨56, _⟩ => ⟨S18432x4x224x8, .bf16⟩
  | .hbm, ⟨57, _⟩ => ⟨S18432x4x56x32, .bf16⟩
  | .hbm, ⟨58, _⟩ => ⟨S18432x56, .bf16⟩
  | .hbm, ⟨59, _⟩ => ⟨S18432x1x56x1, .bf16⟩
  | .hbm, ⟨60, _⟩ => ⟨S18432x4x56x32, .bf16⟩
  | .hbm, ⟨61, _⟩ => ⟨S18432x4x56x32, .bf16⟩
  | .hbm, ⟨62, _⟩ => ⟨S18432x4x1792, .bf16⟩
  | .hbm, ⟨63, _⟩ => ⟨S256x1792x4, .bf16⟩
  | .hbm, ⟨64, _⟩ => ⟨S256x4x1792, .bf16⟩
  | .hbm, ⟨65, _⟩ => ⟨S256x18432, .f32⟩
  | .hbm, ⟨66, _⟩ => ⟨S256x18432, .f32⟩
  | .hbm, ⟨67, _⟩ => ⟨S256x18432, .f32⟩
  | .hbm, ⟨68, _⟩ => ⟨S256x18432, .bf16⟩
  | .local _ .vmem, ⟨0, _⟩ => ⟨S256x7168, .bf16⟩
  | .local _ .vmem, ⟨1, _⟩ => ⟨S18432x3584, .fp8e4m3⟩
  | .local _ .vmem, ⟨2, _⟩ => ⟨S256x7168, .fp8e4m3⟩
  | .local _ .vmem, ⟨3, _⟩ => ⟨S256x1, .f32⟩
  | .local _ .vmem, ⟨4, _⟩ => ⟨S256x7168, .bf16⟩
  | .local _ .vmem, ⟨5, _⟩ => ⟨S18432x3584, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_call0_v0 : Ref sig .tc := ⟨.hbm, 52, rfl⟩
abbrev main_call0_v1 : Ref sig .tc := ⟨.hbm, 53, rfl⟩
abbrev main_v39 : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KSetup.lean ====
module

public import proofs.«01_k».proof.Proof.Gen.Kernel.Frame
public import proofs.«01_k».proof.Proof.Gen.Kernel.Skeleton
public import proofs.«01_k».proof.Proof.Gen.Kernel.Loops

@[expose] public section

/-!
What the two runs of the compiled kernel (`Kernel`) are stated over: the branch condition of the body in closed form
over the grid points, the staging and scratch memrefs, and the frame post from a run that names nothing of the outputs.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 7 rfl).trans ((hA c 7).trans (V_main_arg1 m c)),
      (Pipeline.RDat.FramePost.arr_in h c 8 rfl).trans ((hA c 8).trans (V_main_arg2 m c)),
      (Pipeline.RDat.FramePost.arr_in h c 9 rfl).trans ((hA c 9).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x224 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x224 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x224 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x56 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x7168 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x7168 .bf16 := Memref.whole cc0_scratch0
abbrev scM0_1 : Memref sig .tc .vmem S256x128 .f32 := Memref.whole cc0_scratch1
abbrev scM0_2 : Memref sig .tc .vmem S224x256 .i32 := Memref.whole cc0_scratch2
abbrev scM0_3 : Memref sig .tc .vmem S56x256 .f32 := Memref.whole cc0_scratch3
abbrev scM0_4 : Memref sig .tc .vmem S224x256 .i32 := Memref.whole cc0_scratch4
abbrev scM0_5 : Memref sig .tc .vmem S56x256 .f32 := Memref.whole cc0_scratch5
abbrev scM0_6 : Memref sig .tc .vmem S3584x256 .i32 := Memref.whole cc0_scratch6
abbrev scM0_7 : Memref sig .tc .vmem S3584x256 .i32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Hand

end
-- ==== Proof.KRunA.lean ====
module

public import proofs.«01_k».proof.Proof.KSetup

@[expose] public section

/-!
The run of the compiled kernel's body at the first grid point, the one that quantises.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1128000 in
/-- The body's triple IN CASE A (`scf.if` 0 taken: points 0): on whole staging memrefs — the inputs' at their contents,
    the FORGOTTEN outputs' (10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x7168 .bf16) (harg1 : arg1.IsWhole) (arg2 : Memref sig .tc .vmem S256x3584 .fp8e4m3) (harg2 : arg2.IsWhole) (arg3 : Memref sig .tc .vmem S256x224 .i32) (harg3 : arg3.IsWhole) (arg4 : Memref sig .tc .vmem S256x56 .f32) (harg4 : arg4.IsWhole) (arg5 : Memref sig .tc .vmem S256x3584 .fp8e4m3) (harg5 : arg5.IsWhole) (arg6 : Memref sig .tc .vmem S256x224 .i32) (harg6 : arg6.IsWhole) (arg7 : Memref sig .tc .vmem S256x56 .f32) (harg7 : arg7.IsWhole) (arg8 : Memref sig .tc .vmem S256x3584 .fp8e4m3) (harg8 : arg8.IsWhole) (arg9 : Memref sig .tc .vmem S256x224 .i32) (harg9 : arg9.IsWhole) (arg10 : Memref sig .tc .vmem S256x56 .f32) (harg10 : arg10.IsWhole) (arg11 : Memref sig .tc .vmem S256x512 .bf16) (harg11 : arg11.IsWhole) (arg12 : Memref sig .tc .vmem S256x7168 .fp8e4m3) (harg12 : arg12.IsWhole) (arg13 : Memref sig .tc .vmem S256x1 .f32) (harg13 : arg13.IsWhole) (arg14 : Memref sig .tc .vmem S256x7168 .bf16) (harg14 : arg14.IsWhole) (arg15 : Memref sig .tc .vmem S256x128 .f32) (harg15 : arg15.IsWhole) (arg16 : Memref sig .tc .vmem S224x256 .i32) (harg16 : arg16.IsWhole) (arg17 : Memref sig .tc .vmem S56x256 .f32) (harg17 : arg17.IsWhole) (arg18 : Memref sig .tc .vmem S224x256 .i32) (harg18 : arg18.IsWhole) (arg19 : Memref sig .tc .vmem S56x256 .f32) (harg19 : arg19.IsWhole) (arg20 : Memref sig .tc .vmem S3584x256 .i32) (harg20 : arg20.IsWhole) (arg21 : Memref sig .tc .vmem S3584x256 .i32) (harg21 : arg21.IsWhole) (hc0 : cond0_0 i)
    (x0 : Vec F S256x7168 .bf16) (x1 : Vec F S256x3584 .fp8e4m3) (x2 : Vec F S256x224 .i32) (x3 : Vec F S256x56 .f32) (x4 : Vec F S256x3584 .fp8e4m3) (x5 : Vec F S256x224 .i32) (x6 : Vec F S256x56 .f32) (x7 : Vec F S256x3584 .fp8e4m3) (x8 : Vec F S256x224 .i32) (x9 : Vec F S256x56 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_sparse24_linear_eq_skeleton]; unfold cc0_sparse24_linear_skel
    simp only [k0_part58_eq_skeleton, k0_part19_eq_skeleton, k0_part20_eq_skeleton, k0_part21_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Hand

end
-- ==== Proof.KRunB.lean ====
module

public import proofs.«01_k».proof.Proof.KRunA

@[expose] public section

/-!
The run of the compiled kernel's body at every grid point but the first.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 35: 35 of 36): on whole staging memrefs — the inputs' at their contents,
    the FORGOTTEN outputs' (10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x7168 .bf16) (harg1 : arg1.IsWhole) (arg2 : Memref sig .tc .vmem S256x3584 .fp8e4m3) (harg2 : arg2.IsWhole) (arg3 : Memref sig .tc .vmem S256x224 .i32) (harg3 : arg3.IsWhole) (arg4 : Memref sig .tc .vmem S256x56 .f32) (harg4 : arg4.IsWhole) (arg5 : Memref sig .tc .vmem S256x3584 .fp8e4m3) (harg5 : arg5.IsWhole) (arg6 : Memref sig .tc .vmem S256x224 .i32) (harg6 : arg6.IsWhole) (arg7 : Memref sig .tc .vmem S256x56 .f32) (harg7 : arg7.IsWhole) (arg8 : Memref sig .tc .vmem S256x3584 .fp8e4m3) (harg8 : arg8.IsWhole) (arg9 : Memref sig .tc .vmem S256x224 .i32) (harg9 : arg9.IsWhole) (arg10 : Memref sig .tc .vmem S256x56 .f32) (harg10 : arg10.IsWhole) (arg11 : Memref sig .tc .vmem S256x512 .bf16) (harg11 : arg11.IsWhole) (arg12 : Memref sig .tc .vmem S256x7168 .fp8e4m3) (harg12 : arg12.IsWhole) (arg13 : Memref sig .tc .vmem S256x1 .f32) (harg13 : arg13.IsWhole) (arg14 : Memref sig .tc .vmem S256x7168 .bf16) (harg14 : arg14.IsWhole) (arg15 : Memref sig .tc .vmem S256x128 .f32) (harg15 : arg15.IsWhole) (arg16 : Memref sig .tc .vmem S224x256 .i32) (harg16 : arg16.IsWhole) (arg17 : Memref sig .tc .vmem S56x256 .f32) (harg17 : arg17.IsWhole) (arg18 : Memref sig .tc .vmem S224x256 .i32) (harg18 : arg18.IsWhole) (arg19 : Memref sig .tc .vmem S56x256 .f32) (harg19 : arg19.IsWhole) (arg20 : Memref sig .tc .vmem S3584x256 .i32) (harg20 : arg20.IsWhole) (arg21 : Memref sig .tc .vmem S3584x256 .i32) (harg21 : arg21.IsWhole) (hc0 : ¬cond0_0 i)
    (x0 : Vec F S256x7168 .bf16) (x1 : Vec F S256x3584 .fp8e4m3) (x2 : Vec F S256x224 .i32) (x3 : Vec F S256x56 .f32) (x4 : Vec F S256x3584 .fp8e4m3) (x5 : Vec F S256x224 .i32) (x6 : Vec F S256x56 .f32) (x7 : Vec F S256x3584 .fp8e4m3) (x8 : Vec F S256x224 .i32) (x9 : Vec F S256x56 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_sparse24_linear_eq_skeleton]; unfold cc0_sparse24_linear_skel
    simp only [k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Hand

end
-- ==== Proof.KFrame.lean ====
module

public import proofs.«01_k».proof.Proof.KRunB
public import Idealize.ShloMosaic.Lib.Claim

@[expose] public section

/-!
The frame of the compiled kernel (`Kernel`), at any values: every fair execution of @main ends, with the argument
arrays unchanged and every semaphore counter zero. Nothing is said here of the three output arrays.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12): nothing reads what the kernel leaves in them, so nothing
    of it is named (Lib/Pipeline/Dat.lean `Dat.toRForget`). -/
def forgets0 : Fin 13 → Bool := fun w => w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 36 := lt_of_lt_of_eq t.isLt (show cfg0.N = 36 from N_0)
  by_cases h0 : t.val % 36 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame at any values: every fair execution ends with the four argument arrays unchanged and every semaphore
    counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Setup.lean ====
module

public import proofs.«01_k».proof.Proof.Gen.KernelIdeal.Frame
public import proofs.«01_k».proof.Proof.Gen.KernelIdeal.Points
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

/-!
# What the runs of the body are stated over

The branch condition over the grid, where the windows are idle, and the staging and scratch memrefs as the pipeline passes them.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x224 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x224 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x224 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x56 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x7168 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x7168 .bf16 := Memref.whole cc0_scratch0
abbrev scM0_1 : Memref sig .tc .vmem S256x128 .f32 := Memref.whole cc0_scratch1
abbrev scM0_2 : Memref sig .tc .vmem S224x256 .i32 := Memref.whole cc0_scratch2
abbrev scM0_3 : Memref sig .tc .vmem S56x256 .f32 := Memref.whole cc0_scratch3
abbrev scM0_4 : Memref sig .tc .vmem S224x256 .i32 := Memref.whole cc0_scratch4
abbrev scM0_5 : Memref sig .tc .vmem S56x256 .f32 := Memref.whole cc0_scratch5
abbrev scM0_6 : Memref sig .tc .vmem S3584x2x256 .bf16 := Memref.whole cc0_scratch6
abbrev scM0_7 : Memref sig .tc .vmem S3584x2x256 .bf16 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Hand
-- ==== Proof.Ops.lean ====
module

public import proofs.«01_k».proof.Proof.Gen.KernelIdeal.Skeleton
public import Idealize.ShloMosaic.Lib.Pointwise
public import Idealize.ShloMosaic.Lib.BitcastPair

/-! What one word of column indices expands to, as vectors (the kernel's own operations, written once) and read at an index. -/

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- Word `t` of a 128-column block takes the block's transposed rows `16 t` to `16 t + 15`. -/
theorem slices_word : ∀ t : Fin 8, S128x128.Slices ![16 * t.val, 0] S16x128 := by decide

/-- The sixteen kept values of one word: values times the block's scale. -/
def kvOf (t : Fin 8) (v : Vec F S128x128 .fp8e4m3) (s : Vec F S1x128 .f32) : FVec F S16x128 .bf16 :=
  mulf (extractStridedSlice S16x128 ![16 * t.val, 0]
      (transpose S128x128 [1, 0] (extf .bf16 v bitsLt_fp8e4m3_bf16) transposes_S128x128_p1_0_S128x128) (slices_word t))
    (truncf .bf16 (broadcastTo S16x128 (shapeCast S1x128 s shapeCasts_S1x128_S1x128) broadcasts_S1x128_S16x128) bitsLt_bf16_f32)

/-- The word's bits moved so that group `i`'s four bits are on top in row `i`. -/
def wordSh (sh : IVec S8x128 32) (w : Vec F S1x128 .i32) : IVec S8x128 32 :=
  shli (broadcastTo S8x128 (shapeCast S1x128 w shapeCasts_S1x128_S1x128) broadcasts_S1x128_S8x128) sh

/-- Which of the sixteen kept values sit in the first half of their group's columns. -/
def inFirst (sh : IVec S8x128 32) (w : Vec F S1x128 .i32) : IVec S16x128 1 :=
  cmpi .slt (bitcast S16x128 16 (shrsi (wordSh (F := F) sh w) (broadcast S8x128 14#32)) bitcasts_S8x128_w32_S16x128_w16)
    (broadcast S16x128 0#16)

/-- Which groups exchange the two values of their second half. -/
def swapped (sh : IVec S8x128 32) (w : Vec F S1x128 .i32) : IVec S8x128 1 :=
  cmpi .ne (andi (shrui (wordSh (F := F) sh w) (broadcast S8x128 24#32)) (broadcast S8x128 16#32)) (broadcast S8x128 0#32)

/-- Two arrays of eight rows as the buffer keeps them: row `i` of the first beside row `i` of the second. -/
def beside (lo hi : FVec F S8x128 .bf16) : Vec F S8x2x128 .bf16 :=
  interleaveRows S8x2x128 (shapeCast S8x1x128 lo shapeCasts_S8x128_S8x1x128) (shapeCast S8x1x128 hi shapeCasts_S8x128_S8x1x128)
    bitcasts_S8x2x128_w16_S8x1x128_w32

/-- The kept values that are in a first half. -/
def firsts (sh : IVec S8x128 32) (kv : FVec F S16x128 .bf16) (w : Vec F S1x128 .i32) : FVec F S16x128 .bf16 :=
  select (inFirst (F := F) sh w) kv (broadcast S16x128 (Scalar.ofBits .bf16 0x0000#16))

/-- The sixteen rows of the first halves, two by two. -/
def rowsA (sh : IVec S8x128 32) (kv : FVec F S16x128 .bf16) (w : Vec F S1x128 .i32) : Vec F S8x2x128 .bf16 :=
  beside (rowsOfParity 0 S8x128 (firsts sh kv w) bitcasts_S16x128_w16_S8x128_w32)
    (rowsOfParity 1 S8x128 (firsts sh kv w) bitcasts_S16x128_w16_S8x128_w32)

/-- The kept values that are not in a first half. -/
def rest (sh : IVec S8x128 32) (kv : FVec F S16x128 .bf16) (w : Vec F S1x128 .i32) : FVec F S16x128 .bf16 :=
  select (inFirst (F := F) sh w) (broadcast S16x128 (Scalar.ofBits .bf16 0x0000#16)) kv

/-- The even (`p = 0`) or odd rows of the rest. -/
def half (p : Fin 2) (sh : IVec S8x128 32) (kv : FVec F S16x128 .bf16) (w : Vec F S1x128 .i32) : FVec F S8x128 .bf16 :=
  rowsOfParity p S8x128 (rest sh kv w) bitcasts_S16x128_w16_S8x128_w32

/-- The sixteen rows of the second halves, two by two. -/
def rowsB (sh : IVec S8x128 32) (kv : FVec F S16x128 .bf16) (w : Vec F S1x128 .i32) : Vec F S8x2x128 .bf16 :=
  beside (select (swapped (F := F) sh w) (half 1 sh kv w) (half 0 sh kv w))
    (select (swapped (F := F) sh w) (half 0 sh kv w) (half 1 sh kv w))

/-- Four times the row. -/
def fourRow : IVec S8x128 32 :=
  muli (broadcast S8x128 4#32) (iota .tc S8x128 32 [0] iota_S8x128_d0_w32)

/-- The row shifts `28 - 4 i`. -/
def shifts : IVec S8x128 32 :=
  subi (broadcast S8x128 28#32) fourRow

/-- The sixteen stores of one trip (eight words, last first). -/
def wordPieces (oA oB : Fin 8 → Fin 3 → Nat)
    (hA : ∀ t a, oA t a + S8x2x128.size a ≤ S3584x2x256.size a) (hB : ∀ t a, oB t a + S8x2x128.size a ≤ S3584x2x256.size a)
    (sh : IVec S8x128 32) (v : Vec F S128x128 .fp8e4m3) (s : Fin 2 → Vec F S1x128 .f32) (w : Fin 8 → Vec F S1x128 .i32) :
    List (View.Piece (Elt F) S3584x2x256 .bf16) :=
  let A (t : Fin 8) (u : Fin 2) : View.Piece (Elt F) S3584x2x256 .bf16 := ⟨Rect.unit (oA t) S8x2x128.size (hA t), rowsA sh (kvOf t v (s u)) (w t)⟩
  let B (t : Fin 8) (u : Fin 2) : View.Piece (Elt F) S3584x2x256 .bf16 := ⟨Rect.unit (oB t) S8x2x128.size (hB t), rowsB sh (kvOf t v (s u)) (w t)⟩
  [B 7 1, A 7 1, B 6 1, A 6 1, B 5 1, A 5 1, B 4 1, A 4 1, B 3 0, A 3 0, B 2 0, A 2 0, B 1 0, A 1 0, B 0 0, A 0 0]

/-- Is kept value `q` of a word (bit word `w`) in the first half of its group's columns? -/
def firstBit (w : BitVec 32) (q : Nat) : BitVec 1 :=
  IntOp.cmpi CmpIPredicate.slt (BitVec.extractLsb' (16 * (q % 2)) 16
    (IntOp.shrsi ArithUnit.vector (IntOp.shli ArithUnit.vector w (BitVec.ofNat 32 (28 - 4 * (q / 2)))) 14#32)) 0#16

/-- Does group `i` of a word exchange the two values of its second half? -/
def swapBit (w : BitVec 32) (i : Nat) : BitVec 1 :=
  IntOp.cmpi CmpIPredicate.ne (IntOp.andi (IntOp.shrui ArithUnit.vector
    (IntOp.shli ArithUnit.vector w (BitVec.ofNat 32 (28 - 4 * i))) 24#32) 16#32) 0#32

/-- The zero the kernel puts where no value is kept. -/
def zeroB : F .bf16 := FloatOps.ofBits FTy.bf16 0#16

/-- Kept value `q` of word `w`, column `c` of the chunk, times its scale. -/
def kvE (wv : Vec F S256x3584 .fp8e4m3) (st : Vec F S56x256 .f32) (w : Fin 224) (q : Fin 16) (c : Fin 256) : F .bf16 :=
  FloatOps.mulf (FloatOps.extf .bf16 bitsLt_fp8e4m3_bf16 (wv (ix2 c ⟨16 * w.val + q.val, by omega⟩)))
    (FloatOps.truncf .bf16 bitsLt_bf16_f32 (st (ix2 ⟨w.val / 4, by omega⟩ c)))

/-- The kept value unless it is in a first half. -/
def restE (wv : Vec F S256x3584 .fp8e4m3) (it : Vec F S224x256 .i32) (st : Vec F S56x256 .f32) (w : Fin 224) (q : Fin 16)
    (c : Fin 256) : F .bf16 :=
  Scalar.select (firstBit (it (ix2 w c)) q.val) zeroB (kvE wv st w q c)

/-- THE EXPANDED CHUNK, element by element: row `32 w + q` (`q < 16`) is kept value `q` of word `w` if it is in its group's
    first half; row `32 w + 16 + q` is the kept value of group `q / 2` whose place in the second half is `q % 2`. -/
def denseAt (wv : Vec F S256x3584 .fp8e4m3) (it : Vec F S224x256 .i32) (st : Vec F S56x256 .f32) (r : Fin 7168) (c : Fin 256) :
    F .bf16 :=
  let w : Fin 224 := ⟨r.val / 32, by omega⟩
  let q : Fin 16 := ⟨r.val % 16, by omega⟩
  let lo : Fin 16 := ⟨2 * (r.val % 16 / 2), by omega⟩
  let hi : Fin 16 := ⟨2 * (r.val % 16 / 2) + 1, by omega⟩
  if r.val % 32 < 16 then Scalar.select (firstBit (it (ix2 w c)) q.val) (kvE wv st w q c) zeroB
  else if q.val % 2 = 0 then
    Scalar.select (swapBit (it (ix2 w c)) (q.val / 2)) (restE wv it st w hi c) (restE wv it st w lo c)
  else Scalar.select (swapBit (it (ix2 w c)) (q.val / 2)) (restE wv it st w lo c) (restE wv it st w hi c)

/-- Row `2 i + p` of the expanded chunk. -/
def rowOf (i : Fin 3584) (p : Fin 2) : Fin 7168 := ⟨2 * i.val + p.val, by omega⟩

/-- The expanded chunk as the buffer keeps it: rows `2 i` and `2 i + 1` beside each other. -/
def dense (wv : Vec F S256x3584 .fp8e4m3) (it : Vec F S224x256 .i32) (st : Vec F S56x256 .f32) : Vec F S3584x2x256 .bf16 :=
  fun j => denseAt wv it st (rowOf (j 0) (j 1)) (j 2)

/-- Row `k` of a chunk kept two rows beside each other. -/
def rowAt (d : Vec F S3584x2x256 .bf16) (k : Fin 7168) (c : Fin 256) : F .bf16 :=
  d (ix3 ⟨k.val / 2, by omega⟩ ⟨k.val % 2, by omega⟩ c)

theorem rowAt_dense (wv : Vec F S256x3584 .fp8e4m3) (it : Vec F S224x256 .i32) (st : Vec F S56x256 .f32) (k : Fin 7168) (c : Fin 256) :
    rowAt (dense wv it st) k c = denseAt wv it st k c :=
  congrArg (fun r => denseAt wv it st r c) (Fin.ext (show 2 * (k.val / 2) + k.val % 2 = k.val by omega))

theorem kvOf_apply (t : Fin 8) (v : Vec F S128x128 .fp8e4m3) (s : Vec F S1x128 .f32) (q : Fin 16) (l : Fin 128) :
    kvOf t v s (ix2 q l) = FloatOps.mulf (FloatOps.extf .bf16 bitsLt_fp8e4m3_bf16 (v (ix2 l ⟨16 * t.val + q.val, by omega⟩)))
      (FloatOps.truncf .bf16 bitsLt_bf16_f32 (s (ix2 0 l))) := by
  pointwise [kvOf]

theorem shifts_apply (i : Fin 8) (l : Fin 128) : shifts (ix2 i l) = BitVec.ofNat 32 (28 - 4 * i.val) := by
  pointwise [shifts, fourRow]
  revert i
  decide

theorem inFirst_apply (w : Vec F S1x128 .i32) (q : Fin 16) (l : Fin 128) :
    inFirst (F := F) shifts w (ix2 q l) = firstBit (w (ix2 0 l)) q.val := by
  have hs : ∀ p h, bitcasts_S8x128_w32_S16x128_w16.srcIdx (ix2 q l) p h = ix2 ⟨p, h 0 rfl⟩ l := by
    intro p h; funext a
    match a with
    | ⟨0, _⟩ => rfl
    | ⟨1, _⟩ => rfl
  pointwise [inFirst, wordSh, bitcast_32_16, hs]
  rw [shifts_apply]
  rfl

theorem swapped_apply (w : Vec F S1x128 .i32) (i : Fin 8) (l : Fin 128) :
    swapped (F := F) shifts w (ix2 i l) = swapBit (w (ix2 0 l)) i.val := by
  pointwise [swapped, wordSh]
  rw [shifts_apply]
  rfl

theorem beside_apply (lo hi : FVec F S8x128 .bf16) (i : Fin 8) (p : Fin 2) (l : Fin 128) :
    beside lo hi (ix3 i p l) = if p.val = 0 then lo (ix2 i l) else hi (ix2 i l) := by
  pointwise [beside]
  rw [Nat.mod_eq_of_lt p.isLt]

theorem firsts_apply (kv : FVec F S16x128 .bf16) (w : Vec F S1x128 .i32) (q : Fin 16) (l : Fin 128) :
    firsts shifts kv w (ix2 q l) = Scalar.select (firstBit (w (ix2 0 l)) q.val) (kv (ix2 q l)) zeroB := by
  pointwise [firsts]
  rw [inFirst_apply]
  rfl

theorem rowsA_apply (kv : FVec F S16x128 .bf16) (w : Vec F S1x128 .i32) (i : Fin 8) (p : Fin 2) (l : Fin 128) :
    rowsA shifts kv w (ix3 i p l) =
      Scalar.select (firstBit (w (ix2 0 l)) (2 * i.val + p.val)) (kv (ix2 ⟨2 * i.val + p.val, by omega⟩ l)) zeroB := by
  rw [rowsA, beside_apply]
  pointwise
  simp only [firsts_apply]
  fin_cases p <;> rfl

theorem rest_apply (kv : FVec F S16x128 .bf16) (w : Vec F S1x128 .i32) (q : Fin 16) (l : Fin 128) :
    rest shifts kv w (ix2 q l) = Scalar.select (firstBit (w (ix2 0 l)) q.val) zeroB (kv (ix2 q l)) := by
  pointwise [rest]
  rw [inFirst_apply]
  rfl

theorem rowsB_apply (kv : FVec F S16x128 .bf16) (w : Vec F S1x128 .i32) (i : Fin 8) (p : Fin 2) (l : Fin 128) :
    rowsB shifts kv w (ix3 i p l) =
      if p.val = 0 then
        Scalar.select (swapBit (w (ix2 0 l)) i.val) (rest shifts kv w (ix2 ⟨2 * i.val + 1, by omega⟩ l))
          (rest shifts kv w (ix2 ⟨2 * i.val, by omega⟩ l))
      else
        Scalar.select (swapBit (w (ix2 0 l)) i.val) (rest shifts kv w (ix2 ⟨2 * i.val, by omega⟩ l))
          (rest shifts kv w (ix2 ⟨2 * i.val + 1, by omega⟩ l)) := by
  rw [rowsB, beside_apply]
  pointwise [half]
  simp only [swapped_apply]

/-- The stores of trip `k` of a half (columns `c0 …`) all agree with the expanded chunk. -/
theorem wordPieces_agree (k c0 : Nat) (hk : k < 28) (hc : c0 + 128 ≤ 256) (oA oB : Fin 8 → Fin 3 → Nat)
    (hA : ∀ t a, oA t a + S8x2x128.size a ≤ S3584x2x256.size a) (hB : ∀ t a, oB t a + S8x2x128.size a ≤ S3584x2x256.size a)
    (v : Vec F S128x128 .fp8e4m3) (s : Fin 2 → Vec F S1x128 .f32) (w : Fin 8 → Vec F S1x128 .i32)
    (wv : Vec F S256x3584 .fp8e4m3) (it : Vec F S224x256 .i32) (st : Vec F S56x256 .f32)
    (eA : ∀ t, oA t = ![128 * k + 16 * t.val, 0, c0]) (eB : ∀ t, oB t = ![128 * k + 16 * t.val + 8, 0, c0])
    (hv : ∀ (l p : Fin 128), v (ix2 l p) = wv (ix2 ⟨c0 + l.val, by omega⟩ ⟨128 * k + p.val, by omega⟩))
    (hs : ∀ (u : Fin 2) (l : Fin 128), s u (ix2 0 l) = st (ix2 ⟨2 * k + u.val, by omega⟩ ⟨c0 + l.val, by omega⟩))
    (hw : ∀ (t : Fin 8) (l : Fin 128), w t (ix2 0 l) = it (ix2 ⟨8 * k + t.val, by omega⟩ ⟨c0 + l.val, by omega⟩)) :
    ∀ p ∈ wordPieces oA oB hA hB shifts v s w, ∀ x : p.1.shape.Idx, p.2 x = dense wv it st (p.1.emb x) := by
  have key : ∀ (t : Fin 8) (u : Fin 2) (q : Fin 16) (l : Fin 128), u.val = t.val / 4 →
      ∀ c : Fin 256, c.val = c0 + l.val → ∀ wd : Fin 224, wd.val = 8 * k + t.val →
      kvOf t v (s u) (ix2 q l) = kvE wv st wd q c := by
    intro t u q l hu c hc wd hwd
    rw [kvOf_apply, hv, hs]
    unfold kvE
    have e1 : (⟨c0 + l.val, by omega⟩ : Fin 256) = c := Fin.ext hc.symm
    have e2 : (⟨128 * k + (16 * t.val + q.val), by omega⟩ : Fin 3584) = ⟨16 * wd.val + q.val, by omega⟩ := Fin.ext (by simp only; omega)
    have e3 : (⟨2 * k + u.val, by omega⟩ : Fin 56) = ⟨wd.val / 4, by omega⟩ := Fin.ext (by simp only; omega)
    simp only [e1, e2, e3]
  have hword : ∀ (t : Fin 8) (l : Fin 128) (c : Fin 256), c.val = c0 + l.val → ∀ wd : Fin 224, wd.val = 8 * k + t.val →
      w t (ix2 0 l) = it (ix2 wd c) := by
    intro t l c hc wd hwd
    rw [hw]
    congr 2 <;> exact Fin.ext (by simp only; omega)
  have HA : ∀ (t : Fin 8) (u : Fin 2), u.val = t.val / 4 → ∀ x : S8x2x128.Idx,
      rowsA shifts (kvOf t v (s u)) (w t) x = dense wv it st ((Rect.unit (s := S3584x2x256) (oA t) S8x2x128.size (hA t)).emb x) := by
    intro t u hu x
    have h0 : ((Rect.unit (s := S3584x2x256) (oA t) S8x2x128.size (hA t)).emb x 0).val = 128 * k + 16 * t.val + (x 0).val := by
      show oA t 0 + 1 * (x 0).val = _
      rw [eA]; simp
    have h1 : ((Rect.unit (s := S3584x2x256) (oA t) S8x2x128.size (hA t)).emb x 1).val = (x 1).val := by
      show oA t 1 + 1 * (x 1).val = _
      rw [eA]; simp
    have h2 : ((Rect.unit (s := S3584x2x256) (oA t) S8x2x128.size (hA t)).emb x 2).val = c0 + (x 2).val := by
      show oA t 2 + 1 * (x 2).val = _
      rw [eA]; simp
    generalize (Rect.unit (s := S3584x2x256) (oA t) S8x2x128.size (hA t)).emb x = j at h0 h1 h2
    idx_vars j
    idx_vars x
    have hx := x0.isLt
    have ht := t.isLt
    have hp := x1.isLt
    rw [rowsA_apply]
    show _ = denseAt wv it st (rowOf j0 j1) j2
    unfold denseAt
    dsimp only
    have hr : (rowOf j0 j1).val = 256 * k + 32 * t.val + (2 * x0.val + x1.val) := by
      show 2 * j0.val + j1.val = _
      omega
    generalize rowOf j0 j1 = r at hr
    have eq : (⟨r.val % 16, by omega⟩ : Fin 16) = ⟨2 * x0.val + x1.val, by omega⟩ := Fin.ext (by simp only; omega)
    rw [if_pos (by omega), eq, key t u _ x2 hu j2 h2 ⟨r.val / 32, by omega⟩ (by simp only; omega),
      hword t x2 j2 h2 ⟨r.val / 32, by omega⟩ (by simp only; omega), show r.val % 16 = 2 * x0.val + x1.val by omega]
  have HB : ∀ (t : Fin 8) (u : Fin 2), u.val = t.val / 4 → ∀ x : S8x2x128.Idx,
      rowsB shifts (kvOf t v (s u)) (w t) x = dense wv it st ((Rect.unit (s := S3584x2x256) (oB t) S8x2x128.size (hB t)).emb x) := by
    intro t u hu x
    have h0 : ((Rect.unit (s := S3584x2x256) (oB t) S8x2x128.size (hB t)).emb x 0).val = 128 * k + 16 * t.val + 8 + (x 0).val := by
      show oB t 0 + 1 * (x 0).val = _
      rw [eB]; simp
    have h1 : ((Rect.unit (s := S3584x2x256) (oB t) S8x2x128.size (hB t)).emb x 1).val = (x 1).val := by
      show oB t 1 + 1 * (x 1).val = _
      rw [eB]; simp
    have h2 : ((Rect.unit (s := S3584x2x256) (oB t) S8x2x128.size (hB t)).emb x 2).val = c0 + (x 2).val := by
      show oB t 2 + 1 * (x 2).val = _
      rw [eB]; simp
    generalize (Rect.unit (s := S3584x2x256) (oB t) S8x2x128.size (hB t)).emb x = j at h0 h1 h2
    idx_vars j
    idx_vars x
    have hx := x0.isLt
    have ht := t.isLt
    have hp := x1.isLt
    rw [rowsB_apply]
    show _ = denseAt wv it st (rowOf j0 j1) j2
    unfold denseAt restE
    simp only [rest_apply]
    have hr : (rowOf j0 j1).val = 256 * k + 32 * t.val + 16 + (2 * x0.val + x1.val) := by
      show 2 * j0.val + j1.val = _
      omega
    generalize rowOf j0 j1 = r at hr
    have hwd : (⟨r.val / 32, by omega⟩ : Fin 224).val = 8 * k + t.val := by simp only; omega
    have e2 : r.val % 16 / 2 = x0.val := by omega
    have e1 : r.val % 16 % 2 = x1.val := by omega
    rw [if_neg (c := r.val % 32 < 16) (by omega)]
    simp only [key t u _ x2 hu j2 h2 _ hwd, hword t x2 j2 h2 _ hwd, e2, e1]
  intro p hp
  simp only [wordPieces, List.mem_cons, List.not_mem_nil, or_false] at hp
  rcases hp with rfl | rfl | rfl | rfl | rfl | rfl | rfl | rfl | rfl | rfl | rfl | rfl | rfl | rfl | rfl | rfl
  · exact HB 7 1 rfl
  · exact HA 7 1 rfl
  · exact HB 6 1 rfl
  · exact HA 6 1 rfl
  · exact HB 5 1 rfl
  · exact HA 5 1 rfl
  · exact HB 4 1 rfl
  · exact HA 4 1 rfl
  · exact HB 3 0 rfl
  · exact HA 3 0 rfl
  · exact HB 2 0 rfl
  · exact HA 2 0 rfl
  · exact HB 1 0 rfl
  · exact HA 1 0 rfl
  · exact HB 0 0 rfl
  · exact HA 0 0 rfl

/-- The stores of trip `k` of a half cover the trip's 128 pairs of rows in the half's columns. -/
theorem wordPieces_cover (k c0 : Nat) (oA oB : Fin 8 → Fin 3 → Nat)
    (hA : ∀ t a, oA t a + S8x2x128.size a ≤ S3584x2x256.size a) (hB : ∀ t a, oB t a + S8x2x128.size a ≤ S3584x2x256.size a)
    (sh : IVec S8x128 32) (v : Vec F S128x128 .fp8e4m3) (s : Fin 2 → Vec F S1x128 .f32) (w : Fin 8 → Vec F S1x128 .i32)
    (eA : ∀ t, oA t = ![128 * k + 16 * t.val, 0, c0]) (eB : ∀ t, oB t = ![128 * k + 16 * t.val + 8, 0, c0])
    (y : S3584x2x256.Idx) (h0 : (y 0).val / 128 = k) (h1 : c0 ≤ (y 2).val) (h2 : (y 2).val < c0 + 128) :
    ∃ p ∈ wordPieces (F := F) oA oB hA hB sh v s w, y ∈ p.1.set := by
  have hy0 : (y 0).val < 3584 := (y 0).isLt
  have hy1 : (y 1).val < 2 := (y 1).isLt
  have memA : ∀ t : Fin 8, (y 0).val / 16 % 8 = t.val → (y 0).val % 16 < 8 →
      y ∈ (Rect.unit (s := S3584x2x256) (oA t) S8x2x128.size (hA t)).set := by
    intro t ht hq
    rw [Rect.mem_set_unit]
    intro a
    rw [eA]
    match a with
    | ⟨0, _⟩ => exact ⟨show 128 * k + 16 * t.val ≤ (y 0).val by omega, show (y 0).val < 128 * k + 16 * t.val + 8 by omega⟩
    | ⟨1, _⟩ => exact ⟨show 0 ≤ (y 1).val by omega, show (y 1).val < 0 + 2 by omega⟩
    | ⟨2, _⟩ => exact ⟨show c0 ≤ (y 2).val by omega, show (y 2).val < c0 + 128 by omega⟩
  have memB : ∀ t : Fin 8, (y 0).val / 16 % 8 = t.val → ¬ (y 0).val % 16 < 8 →
      y ∈ (Rect.unit (s := S3584x2x256) (oB t) S8x2x128.size (hB t)).set := by
    intro t ht hq
    rw [Rect.mem_set_unit]
    intro a
    rw [eB]
    match a with
    | ⟨0, _⟩ => exact ⟨show 128 * k + 16 * t.val + 8 ≤ (y 0).val by omega, show (y 0).val < 128 * k + 16 * t.val + 8 + 8 by omega⟩
    | ⟨1, _⟩ => exact ⟨show 0 ≤ (y 1).val by omega, show (y 1).val < 0 + 2 by omega⟩
    | ⟨2, _⟩ => exact ⟨show c0 ≤ (y 2).val by omega, show (y 2).val < c0 + 128 by omega⟩
  have ht : (y 0).val / 16 % 8 < 8 := by omega
  by_cases hq : (y 0).val % 16 < 8
  · have := fun t h => memA t h hq
    generalize (y 0).val / 16 % 8 = n at this ht
    interval_cases n
    · exact ⟨_, List.getElem_mem (l := wordPieces oA oB hA hB sh v s w) (n := 15) (by show 15 < 16; decide), this 0 rfl⟩
    · exact ⟨_, List.getElem_mem (l := wordPieces oA oB hA hB sh v s w) (n := 13) (by show 13 < 16; decide), this 1 rfl⟩
    · exact ⟨_, List.getElem_mem (l := wordPieces oA oB hA hB sh v s w) (n := 11) (by show 11 < 16; decide), this 2 rfl⟩
    · exact ⟨_, List.getElem_mem (l := wordPieces oA oB hA hB sh v s w) (n := 9) (by show 9 < 16; decide), this 3 rfl⟩
    · exact ⟨_, List.getElem_mem (l := wordPieces oA oB hA hB sh v s w) (n := 7) (by show 7 < 16; decide), this 4 rfl⟩
    · exact ⟨_, List.getElem_mem (l := wordPieces oA oB hA hB sh v s w) (n := 5) (by show 5 < 16; decide), this 5 rfl⟩
    · exact ⟨_, List.getElem_mem (l := wordPieces oA oB hA hB sh v s w) (n := 3) (by show 3 < 16; decide), this 6 rfl⟩
    · exact ⟨_, List.getElem_mem (l := wordPieces oA oB hA hB sh v s w) (n := 1) (by show 1 < 16; decide), this 7 rfl⟩
  · have := fun t h => memB t h hq
    generalize (y 0).val / 16 % 8 = n at this ht
    interval_cases n
    · exact ⟨_, List.getElem_mem (l := wordPieces oA oB hA hB sh v s w) (n := 14) (by show 14 < 16; decide), this 0 rfl⟩
    · exact ⟨_, List.getElem_mem (l := wordPieces oA oB hA hB sh v s w) (n := 12) (by show 12 < 16; decide), this 1 rfl⟩
    · exact ⟨_, List.getElem_mem (l := wordPieces oA oB hA hB sh v s w) (n := 10) (by show 10 < 16; decide), this 2 rfl⟩
    · exact ⟨_, List.getElem_mem (l := wordPieces oA oB hA hB sh v s w) (n := 8) (by show 8 < 16; decide), this 3 rfl⟩
    · exact ⟨_, List.getElem_mem (l := wordPieces oA oB hA hB sh v s w) (n := 6) (by show 6 < 16; decide), this 4 rfl⟩
    · exact ⟨_, List.getElem_mem (l := wordPieces oA oB hA hB sh v s w) (n := 4) (by show 4 < 16; decide), this 5 rfl⟩
    · exact ⟨_, List.getElem_mem (l := wordPieces oA oB hA hB sh v s w) (n := 2) (by show 2 < 16; decide), this 6 rfl⟩
    · exact ⟨_, List.getElem_mem (l := wordPieces oA oB hA hB sh v s w) (n := 0) (by show 0 < 16; decide), this 7 rfl⟩

end Cert.KernelIdeal.Hand
-- ==== Proof.Expand.lean ====
module

public import proofs.«01_k».proof.Proof.Gen.KernelIdeal.Loops
public import proofs.«01_k».proof.Proof.Ops

@[expose] public section

/-!
# What the six expansion loops write

Each expansion loop walks the 28 words-of-eight of one half (128 columns) of a weight chunk and writes, word by word, the
dense rows of those columns.  Below, the pieces a loop writes are shown to be pieces of the dense array `dense` of the
chunk's values, index words and scales, and to cover the half.
-/

set_option maxRecDepth 16384

noncomputable section
namespace Cert.KernelIdeal.Hand
open Idealize.ShloMosaic Idealize.ShloMosaic.TcCoe Idealize.ShloMosaic.Tactic
open Cert.KernelIdeal Cert.KernelIdeal.Gen

variable {F : FTy → Type} [FloatOps F]

/-- The pieces `L` are pieces of the array `D`, and they cover the rows below `128 * n` of the 128 columns from `c0` on. -/
structure Expands (c0 n : Nat) (D : Vec F S3584x2x256 .bf16) (L : List (View.Piece (Elt F) S3584x2x256 .bf16)) : Prop where
  agree : ∀ p ∈ L, ∀ x : p.1.shape.Idx, p.2 x = D (p.1.emb x)
  cover : ∀ y : S3584x2x256.Idx, (y 0).val < 128 * n → c0 ≤ (y 2).val → (y 2).val < c0 + 128 → ∃ p ∈ L, y ∈ p.1.set

/-- Nothing written covers no row. -/
theorem Expands.nil (c0 : Nat) (D : Vec F S3584x2x256 .bf16) : Expands c0 0 D [] :=
  ⟨fun p hp => absurd hp (List.not_mem_nil), fun y h => absurd h (by omega)⟩

/-- One trip more: the sixteen pieces of trip `k`, whose operands are read off the chunk's arrays, in front of the pieces of
the trips before. -/
theorem Expands.trip {k c0 : Nat} (hk : k < 28) (hc : c0 + 128 ≤ 256) {D : Vec F S3584x2x256 .bf16}
    {L : List (View.Piece (Elt F) S3584x2x256 .bf16)} (h : Expands c0 k D L) {oA oB : Fin 8 → Fin 3 → Nat}
    {hA : ∀ t a, oA t a + S8x2x128.size a ≤ S3584x2x256.size a} {hB : ∀ t a, oB t a + S8x2x128.size a ≤ S3584x2x256.size a}
    {v : Vec F S128x128 .fp8e4m3} {s : Fin 2 → Vec F S1x128 .f32} {w : Fin 8 → Vec F S1x128 .i32}
    {wv : Vec F S256x3584 .fp8e4m3} {it : Vec F S224x256 .i32} {st : Vec F S56x256 .f32} (hD : D = dense wv it st)
    (eA : ∀ t, oA t = ![128 * k + 16 * t.val, 0, c0]) (eB : ∀ t, oB t = ![128 * k + 16 * t.val + 8, 0, c0])
    (hv : ∀ (l p : Fin 128), v (ix2 l p) = wv (ix2 ⟨c0 + l.val, by omega⟩ ⟨128 * k + p.val, by omega⟩))
    (hs : ∀ (u : Fin 2) (l : Fin 128), s u (ix2 0 l) = st (ix2 ⟨2 * k + u.val, by omega⟩ ⟨c0 + l.val, by omega⟩))
    (hw : ∀ (t : Fin 8) (l : Fin 128), w t (ix2 0 l) = it (ix2 ⟨8 * k + t.val, by omega⟩ ⟨c0 + l.val, by omega⟩)) :
    Expands c0 (k + 1) D (wordPieces oA oB hA hB shifts v s w ++ L) := by
  subst hD
  refine ⟨fun p hp => ?_, fun y h0 h1 h2 => ?_⟩
  · rcases List.mem_append.mp hp with hp | hp
    · exact wordPieces_agree k c0 hk hc oA oB hA hB v s w wv it st eA eB hv hs hw p hp
    · exact h.agree p hp
  · by_cases hy : (y 0).val < 128 * k
    · obtain ⟨p, hp, hm⟩ := h.cover y hy h1 h2
      exact ⟨p, List.mem_append.mpr (Or.inr hp), hm⟩
    · obtain ⟨p, hp, hm⟩ := wordPieces_cover (F := F) k c0 oA oB hA hB shifts v s w eA eB y (by omega) h1 h2
      exact ⟨p, List.mem_append.mpr (Or.inl hp), hm⟩

/-- The two halves of a chunk written, one loop after the other, the array reads as `D` whatever it held. -/
theorem Expands.read {sg : RefSig} {κ : Kind} {sp : Space} (v : View sg κ sp S3584x2x256 .bf16) (f : v.ty.Contents (Elt F)) {D : Vec F S3584x2x256 .bf16}
    {L L' : List (View.Piece (Elt F) S3584x2x256 .bf16)} (h : Expands 0 28 D L) (h' : Expands 128 28 D L') :
    v.read (Elt F) (v.writes (Elt F) (v.writes (Elt F) f L) L') = D := by
  rw [← View.writes_append]
  funext y
  refine View.read_writes_apply_of_pieces v f D (L' ++ L) (fun p hp => ?_) y ?_
  · rcases List.mem_append.mp hp with hp | hp
    · exact h'.agree p hp
    · exact h.agree p hp
  · have hy0 : (y 0).val < 3584 := (y 0).isLt
    have hy1 : (y 2).val < 256 := (y 2).isLt
    by_cases hy : (y 2).val < 128
    · obtain ⟨p, hp, hm⟩ := h.cover y (by omega) (by omega) (by omega)
      exact ⟨p, List.mem_append.mpr (Or.inr hp), hm⟩
    · obtain ⟨p, hp, hm⟩ := h'.cover y (by omega) (by omega) (by omega)
      exact ⟨p, List.mem_append.mpr (Or.inl hp), hm⟩

/-- An index of a rectangle's load, by its two coordinates. -/
theorem idx_ix2 {m n a b : Nat} {off : Fin 2 → Nat} (r0 c0 : Nat) (e : off = ![r0, c0])
    (h : ∀ x, off x + (⟨2, ![a, b]⟩ : Shape).size x ≤ (⟨2, ![m, n]⟩ : Shape).size x) (p : Fin a) (q : Fin b) (hp : r0 + p.val < m) (hq : c0 + q.val < n) :
    (Rect.unit (s := ⟨2, ![m, n]⟩) off (⟨2, ![a, b]⟩ : Shape).size h).toLoadRect.idx (ix2 p q) = ix2 ⟨r0 + p.val, hp⟩ ⟨c0 + q.val, hq⟩ := by
  subst e
  funext x
  apply Fin.ext
  fin_cases x
  · show r0 + 1 * p.val = r0 + p.val
    omega
  · show c0 + 1 * q.val = c0 + q.val
    omega

variable (𝒱 : Variants) (c : Dev nD) (bd : Option 𝒱.V) (i : grid0.Coords) (arg1 : Memref sig .tc .vmem S256x7168 .bf16) (harg1 : arg1.IsWhole) (arg2 : Memref sig .tc .vmem S256x3584 .fp8e4m3) (harg2 : arg2.IsWhole) (arg3 : Memref sig .tc .vmem S256x224 .i32) (harg3 : arg3.IsWhole) (arg4 : Memref sig .tc .vmem S256x56 .f32) (harg4 : arg4.IsWhole) (arg5 : Memref sig .tc .vmem S256x3584 .fp8e4m3) (harg5 : arg5.IsWhole) (arg6 : Memref sig .tc .vmem S256x224 .i32) (harg6 : arg6.IsWhole) (arg7 : Memref sig .tc .vmem S256x56 .f32) (harg7 : arg7.IsWhole) (arg8 : Memref sig .tc .vmem S256x3584 .fp8e4m3) (harg8 : arg8.IsWhole) (arg9 : Memref sig .tc .vmem S256x224 .i32) (harg9 : arg9.IsWhole) (arg10 : Memref sig .tc .vmem S256x56 .f32) (harg10 : arg10.IsWhole) (arg11 : Memref sig .tc .vmem S256x512 .bf16) (harg11 : arg11.IsWhole) (arg12 : Memref sig .tc .vmem S256x7168 .fp8e4m3) (harg12 : arg12.IsWhole) (arg13 : Memref sig .tc .vmem S256x1 .f32) (harg13 : arg13.IsWhole) (arg14 : Memref sig .tc .vmem S256x7168 .bf16) (harg14 : arg14.IsWhole) (arg15 : Memref sig .tc .vmem S256x128 .f32) (harg15 : arg15.IsWhole) (arg16 : Memref sig .tc .vmem S224x256 .i32) (harg16 : arg16.IsWhole) (arg17 : Memref sig .tc .vmem S56x256 .f32) (harg17 : arg17.IsWhole) (arg18 : Memref sig .tc .vmem S224x256 .i32) (harg18 : arg18.IsWhole) (arg19 : Memref sig .tc .vmem S56x256 .f32) (harg19 : arg19.IsWhole) (arg20 : Memref sig .tc .vmem S3584x2x256 .bf16) (harg20 : arg20.IsWhole) (arg21 : Memref sig .tc .vmem S3584x2x256 .bf16) (harg21 : arg21.IsWhole)

/-- Trip `k` of loop 3 writes the sixteen pieces of its eight words. -/
theorem trip_t3 (k0_h1 : k0_cond1 i = 1#1) (X2 : BufTy.Contents (Elt F) arg2.view.ty) (X16 : BufTy.Contents (Elt F) arg16.view.ty) (X17 : BufTy.Contents (Elt F) arg17.view.ty) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X2 X16 X17 k
      = wordPieces (fun t => k0_off6 k (BitVec.ofNat 32 t.val)) (fun t => k0_off7 k (BitVec.ofNat 32 t.val)) (fun t => k0_off6_inb i k k0_h1 t) (fun t => k0_off7_inb i k k0_h1 t) shifts
          (View.readAt (Elt F) arg2.view (Rect.unit (s := S256x3584) (k0_off3 k) S128x128.size (k0_off3_inb i k k0_h1 )).toLoadRect X2)
          (fun u => View.readAt (Elt F) arg17.view (Rect.unit (s := S56x256) (k0_off4 k (BitVec.ofNat 32 u.val)) S1x128.size (k0_off4_inb i k k0_h1 u)).toLoadRect X17)
          (fun t => View.readAt (Elt F) arg16.view (Rect.unit (s := S224x256) (k0_off5 k (BitVec.ofNat 32 t.val)) S1x128.size (k0_off5_inb i k k0_h1 t)).toLoadRect X16) := by
  unfold tripL_k0_t3 trip_k0_t3
  rfl

/-- Loop 3 writes the first half of the dense array of its chunk. -/
theorem expands_t3 (k0_h1 : k0_cond1 i = 1#1) (X2 : BufTy.Contents (Elt F) arg2.view.ty) (X16 : BufTy.Contents (Elt F) arg16.view.ty) (X17 : BufTy.Contents (Elt F) arg17.view.ty) (n : Nat) (hn : n ≤ 28) :
    Expands 0 n (dense (arg2.view.read (Elt F) X2) (arg16.view.read (Elt F) X16) (arg17.view.read (Elt F) X17))
      (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X2 X16 X17 n) := by
  induction n with
  | zero => exact Expands.nil _ _
  | succ n ih =>
    have hl : n < k0_t3_loop.trips := by
      have e : k0_t3_loop.trips = 28 := by decide +kernel
      omega
    rw [show n + 1 = (⟨n, hl⟩ : Fin k0_t3_loop.trips).val + 1 from rfl, pb_k0_t3_succ, trip_t3]
    refine (ih (by omega)).trip (by omega) (by omega) rfl (fun t => k0_off6_eq _ t) (fun t => k0_off7_eq _ t) (fun l p => ?_) (fun u l => ?_) (fun t l => ?_)
    · exact congrArg (arg2.view.read (Elt F) X2) (idx_ix2 0 (128 * n) (k0_off3_eq _) _ l p (by omega) (by omega))
    · exact congrArg (arg17.view.read (Elt F) X17) (idx_ix2 (2 * n + u.val) 0 (k0_off4_eq _ u) _ 0 l (by show 2 * n + u.val + 0 < 56; omega) (by omega))
    · exact congrArg (arg16.view.read (Elt F) X16) (idx_ix2 (8 * n + t.val) 0 (k0_off5_eq _ t) _ 0 l (by show 8 * n + t.val + 0 < 224; omega) (by omega))

/-- Trip `k` of loop 4 writes the sixteen pieces of its eight words. -/
theorem trip_t4 (k0_h1 : k0_cond1 i = 1#1) (X2 : BufTy.Contents (Elt F) arg2.view.ty) (X16 : BufTy.Contents (Elt F) arg16.view.ty) (X17 : BufTy.Contents (Elt F) arg17.view.ty) (k : Fin k0_t4_loop.trips) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X2 X16 X17 k
      = wordPieces (fun t => k0_off11 k (BitVec.ofNat 32 t.val)) (fun t => k0_off12 k (BitVec.ofNat 32 t.val)) (fun t => k0_off11_inb i k k0_h1 t) (fun t => k0_off12_inb i k k0_h1 t) shifts
          (View.readAt (Elt F) arg2.view (Rect.unit (s := S256x3584) (k0_off8 k) S128x128.size (k0_off8_inb i k k0_h1 )).toLoadRect X2)
          (fun u => View.readAt (Elt F) arg17.view (Rect.unit (s := S56x256) (k0_off9 k (BitVec.ofNat 32 u.val)) S1x128.size (k0_off9_inb i k k0_h1 u)).toLoadRect X17)
          (fun t => View.readAt (Elt F) arg16.view (Rect.unit (s := S224x256) (k0_off10 k (BitVec.ofNat 32 t.val)) S1x128.size (k0_off10_inb i k k0_h1 t)).toLoadRect X16) := by
  unfold tripL_k0_t4 trip_k0_t4
  rfl

/-- Loop 4 writes the second half of the dense array of its chunk. -/
theorem expands_t4 (k0_h1 : k0_cond1 i = 1#1) (X2 : BufTy.Contents (Elt F) arg2.view.ty) (X16 : BufTy.Contents (Elt F) arg16.view.ty) (X17 : BufTy.Contents (Elt F) arg17.view.ty) (n : Nat) (hn : n ≤ 28) :
    Expands 128 n (dense (arg2.view.read (Elt F) X2) (arg16.view.read (Elt F) X16) (arg17.view.read (Elt F) X17))
      (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X2 X16 X17 n) := by
  induction n with
  | zero => exact Expands.nil _ _
  | succ n ih =>
    have hl : n < k0_t4_loop.trips := by
      have e : k0_t4_loop.trips = 28 := by decide +kernel
      omega
    rw [show n + 1 = (⟨n, hl⟩ : Fin k0_t4_loop.trips).val + 1 from rfl, pb_k0_t4_succ, trip_t4]
    refine (ih (by omega)).trip (by omega) (by omega) rfl (fun t => k0_off11_eq _ t) (fun t => k0_off12_eq _ t) (fun l p => ?_) (fun u l => ?_) (fun t l => ?_)
    · exact congrArg (arg2.view.read (Elt F) X2) (idx_ix2 128 (128 * n) (k0_off8_eq _) _ l p (by omega) (by omega))
    · exact congrArg (arg17.view.read (Elt F) X17) (idx_ix2 (2 * n + u.val) 128 (k0_off9_eq _ u) _ 0 l (by show 2 * n + u.val + 0 < 56; omega) (by omega))
    · exact congrArg (arg16.view.read (Elt F) X16) (idx_ix2 (8 * n + t.val) 128 (k0_off10_eq _ t) _ 0 l (by show 8 * n + t.val + 0 < 224; omega) (by omega))

/-- Trip `k` of loop 5 writes the sixteen pieces of its eight words. -/
theorem trip_t5 (X5 : BufTy.Contents (Elt F) arg5.view.ty) (X16 : BufTy.Contents (Elt F) arg16.view.ty) (X17 : BufTy.Contents (Elt F) arg17.view.ty) (k : Fin k0_t5_loop.trips) :
    tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shifts 0#32 X5 X16 X17 k
      = wordPieces (fun t => k0_off16 k (BitVec.ofNat 32 t.val)) (fun t => k0_off17 k (BitVec.ofNat 32 t.val)) (fun t => k0_off16_inb k t) (fun t => k0_off17_inb k t) shifts
          (View.readAt (Elt F) arg5.view (Rect.unit (s := S256x3584) (k0_off13 k) S128x128.size (k0_off13_inb k )).toLoadRect X5)
          (fun u => View.readAt (Elt F) arg17.view (Rect.unit (s := S56x256) (k0_off14 k (BitVec.ofNat 32 u.val)) S1x128.size (k0_off14_inb k u)).toLoadRect X17)
          (fun t => View.readAt (Elt F) arg16.view (Rect.unit (s := S224x256) (k0_off15 k (BitVec.ofNat 32 t.val)) S1x128.size (k0_off15_inb k t)).toLoadRect X16) := by
  unfold tripL_k0_t5 trip_k0_t5
  rfl

/-- Loop 5 writes the first half of the dense array of its chunk. -/
theorem expands_t5 (shv : IVec S8x128 32) (c0b : BitVec 32) (hsh : shv = shifts) (h0b : c0b = 0#32) (X5 : BufTy.Contents (Elt F) arg5.view.ty) (X16 : BufTy.Contents (Elt F) arg16.view.ty) (X17 : BufTy.Contents (Elt F) arg17.view.ty) (n : Nat) (hn : n ≤ 28) :
    Expands 0 n (dense (arg5.view.read (Elt F) X5) (arg16.view.read (Elt F) X16) (arg17.view.read (Elt F) X17))
      (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shv c0b X5 X16 X17 n) := by
  subst hsh h0b
  induction n with
  | zero => exact Expands.nil _ _
  | succ n ih =>
    have hl : n < k0_t5_loop.trips := by
      have e : k0_t5_loop.trips = 28 := by decide +kernel
      omega
    rw [show n + 1 = (⟨n, hl⟩ : Fin k0_t5_loop.trips).val + 1 from rfl, pb_k0_t5_succ, trip_t5]
    refine (ih (by omega)).trip (by omega) (by omega) rfl (fun t => k0_off16_eq _ t) (fun t => k0_off17_eq _ t) (fun l p => ?_) (fun u l => ?_) (fun t l => ?_)
    · exact congrArg (arg5.view.read (Elt F) X5) (idx_ix2 0 (128 * n) (k0_off13_eq _) _ l p (by omega) (by omega))
    · exact congrArg (arg17.view.read (Elt F) X17) (idx_ix2 (2 * n + u.val) 0 (k0_off14_eq _ u) _ 0 l (by show 2 * n + u.val + 0 < 56; omega) (by omega))
    · exact congrArg (arg16.view.read (Elt F) X16) (idx_ix2 (8 * n + t.val) 0 (k0_off15_eq _ t) _ 0 l (by show 8 * n + t.val + 0 < 224; omega) (by omega))

/-- Trip `k` of loop 6 writes the sixteen pieces of its eight words. -/
theorem trip_t6 (X5 : BufTy.Contents (Elt F) arg5.view.ty) (X16 : BufTy.Contents (Elt F) arg16.view.ty) (X17 : BufTy.Contents (Elt F) arg17.view.ty) (k : Fin k0_t6_loop.trips) :
    tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shifts 0#32 X5 X16 X17 k
      = wordPieces (fun t => k0_off21 k (BitVec.ofNat 32 t.val)) (fun t => k0_off22 k (BitVec.ofNat 32 t.val)) (fun t => k0_off21_inb k t) (fun t => k0_off22_inb k t) shifts
          (View.readAt (Elt F) arg5.view (Rect.unit (s := S256x3584) (k0_off18 k) S128x128.size (k0_off18_inb k )).toLoadRect X5)
          (fun u => View.readAt (Elt F) arg17.view (Rect.unit (s := S56x256) (k0_off19 k (BitVec.ofNat 32 u.val)) S1x128.size (k0_off19_inb k u)).toLoadRect X17)
          (fun t => View.readAt (Elt F) arg16.view (Rect.unit (s := S224x256) (k0_off20 k (BitVec.ofNat 32 t.val)) S1x128.size (k0_off20_inb k t)).toLoadRect X16) := by
  unfold tripL_k0_t6 trip_k0_t6
  rfl

/-- Loop 6 writes the second half of the dense array of its chunk. -/
theorem expands_t6 (shv : IVec S8x128 32) (c0b : BitVec 32) (hsh : shv = shifts) (h0b : c0b = 0#32) (X5 : BufTy.Contents (Elt F) arg5.view.ty) (X16 : BufTy.Contents (Elt F) arg16.view.ty) (X17 : BufTy.Contents (Elt F) arg17.view.ty) (n : Nat) (hn : n ≤ 28) :
    Expands 128 n (dense (arg5.view.read (Elt F) X5) (arg16.view.read (Elt F) X16) (arg17.view.read (Elt F) X17))
      (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shv c0b X5 X16 X17 n) := by
  subst hsh h0b
  induction n with
  | zero => exact Expands.nil _ _
  | succ n ih =>
    have hl : n < k0_t6_loop.trips := by
      have e : k0_t6_loop.trips = 28 := by decide +kernel
      omega
    rw [show n + 1 = (⟨n, hl⟩ : Fin k0_t6_loop.trips).val + 1 from rfl, pb_k0_t6_succ, trip_t6]
    refine (ih (by omega)).trip (by omega) (by omega) rfl (fun t => k0_off21_eq _ t) (fun t => k0_off22_eq _ t) (fun l p => ?_) (fun u l => ?_) (fun t l => ?_)
    · exact congrArg (arg5.view.read (Elt F) X5) (idx_ix2 128 (128 * n) (k0_off18_eq _) _ l p (by omega) (by omega))
    · exact congrArg (arg17.view.read (Elt F) X17) (idx_ix2 (2 * n + u.val) 128 (k0_off19_eq _ u) _ 0 l (by show 2 * n + u.val + 0 < 56; omega) (by omega))
    · exact congrArg (arg16.view.read (Elt F) X16) (idx_ix2 (8 * n + t.val) 128 (k0_off20_eq _ t) _ 0 l (by show 8 * n + t.val + 0 < 224; omega) (by omega))

/-- Trip `k` of loop 7 writes the sixteen pieces of its eight words. -/
theorem trip_t7 (X8 : BufTy.Contents (Elt F) arg8.view.ty) (X18 : BufTy.Contents (Elt F) arg18.view.ty) (X19 : BufTy.Contents (Elt F) arg19.view.ty) (k : Fin k0_t7_loop.trips) :
    tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 fourRow X8 X18 X19 k
      = wordPieces (fun t => k0_off26 k (BitVec.ofNat 32 t.val)) (fun t => k0_off27 k (BitVec.ofNat 32 t.val)) (fun t => k0_off26_inb k t) (fun t => k0_off27_inb k t) shifts
          (View.readAt (Elt F) arg8.view (Rect.unit (s := S256x3584) (k0_off23 k) S128x128.size (k0_off23_inb k )).toLoadRect X8)
          (fun u => View.readAt (Elt F) arg19.view (Rect.unit (s := S56x256) (k0_off24 k (BitVec.ofNat 32 u.val)) S1x128.size (k0_off24_inb k u)).toLoadRect X19)
          (fun t => View.readAt (Elt F) arg18.view (Rect.unit (s := S224x256) (k0_off25 k (BitVec.ofNat 32 t.val)) S1x128.size (k0_off25_inb k t)).toLoadRect X18) := by
  unfold tripL_k0_t7 trip_k0_t7
  rfl

/-- Loop 7 writes the first half of the dense array of its chunk. -/
theorem expands_t7 (shv : IVec S8x128 32) (hsh : shv = fourRow) (X8 : BufTy.Contents (Elt F) arg8.view.ty) (X18 : BufTy.Contents (Elt F) arg18.view.ty) (X19 : BufTy.Contents (Elt F) arg19.view.ty) (n : Nat) (hn : n ≤ 28) :
    Expands 0 n (dense (arg8.view.read (Elt F) X8) (arg18.view.read (Elt F) X18) (arg19.view.read (Elt F) X19))
      (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shv X8 X18 X19 n) := by
  subst hsh
  induction n with
  | zero => exact Expands.nil _ _
  | succ n ih =>
    have hl : n < k0_t7_loop.trips := by
      have e : k0_t7_loop.trips = 28 := by decide +kernel
      omega
    rw [show n + 1 = (⟨n, hl⟩ : Fin k0_t7_loop.trips).val + 1 from rfl, pb_k0_t7_succ, trip_t7]
    refine (ih (by omega)).trip (by omega) (by omega) rfl (fun t => k0_off26_eq _ t) (fun t => k0_off27_eq _ t) (fun l p => ?_) (fun u l => ?_) (fun t l => ?_)
    · exact congrArg (arg8.view.read (Elt F) X8) (idx_ix2 0 (128 * n) (k0_off23_eq _) _ l p (by omega) (by omega))
    · exact congrArg (arg19.view.read (Elt F) X19) (idx_ix2 (2 * n + u.val) 0 (k0_off24_eq _ u) _ 0 l (by show 2 * n + u.val + 0 < 56; omega) (by omega))
    · exact congrArg (arg18.view.read (Elt F) X18) (idx_ix2 (8 * n + t.val) 0 (k0_off25_eq _ t) _ 0 l (by show 8 * n + t.val + 0 < 224; omega) (by omega))

/-- Trip `k` of loop 8 writes the sixteen pieces of its eight words. -/
theorem trip_t8 (X8 : BufTy.Contents (Elt F) arg8.view.ty) (X18 : BufTy.Contents (Elt F) arg18.view.ty) (X19 : BufTy.Contents (Elt F) arg19.view.ty) (k : Fin k0_t8_loop.trips) :
    tripL_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 fourRow X8 X18 X19 k
      = wordPieces (fun t => k0_off31 k (BitVec.ofNat 32 t.val)) (fun t => k0_off32 k (BitVec.ofNat 32 t.val)) (fun t => k0_off31_inb k t) (fun t => k0_off32_inb k t) shifts
          (View.readAt (Elt F) arg8.view (Rect.unit (s := S256x3584) (k0_off28 k) S128x128.size (k0_off28_inb k )).toLoadRect X8)
          (fun u => View.readAt (Elt F) arg19.view (Rect.unit (s := S56x256) (k0_off29 k (BitVec.ofNat 32 u.val)) S1x128.size (k0_off29_inb k u)).toLoadRect X19)
          (fun t => View.readAt (Elt F) arg18.view (Rect.unit (s := S224x256) (k0_off30 k (BitVec.ofNat 32 t.val)) S1x128.size (k0_off30_inb k t)).toLoadRect X18) := by
  unfold tripL_k0_t8 trip_k0_t8
  rfl

/-- Loop 8 writes the second half of the dense array of its chunk. -/
theorem expands_t8 (shv : IVec S8x128 32) (hsh : shv = fourRow) (X8 : BufTy.Contents (Elt F) arg8.view.ty) (X18 : BufTy.Contents (Elt F) arg18.view.ty) (X19 : BufTy.Contents (Elt F) arg19.view.ty) (n : Nat) (hn : n ≤ 28) :
    Expands 128 n (dense (arg8.view.read (Elt F) X8) (arg18.view.read (Elt F) X18) (arg19.view.read (Elt F) X19))
      (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 shv X8 X18 X19 n) := by
  subst hsh
  induction n with
  | zero => exact Expands.nil _ _
  | succ n ih =>
    have hl : n < k0_t8_loop.trips := by
      have e : k0_t8_loop.trips = 28 := by decide +kernel
      omega
    rw [show n + 1 = (⟨n, hl⟩ : Fin k0_t8_loop.trips).val + 1 from rfl, pb_k0_t8_succ, trip_t8]
    refine (ih (by omega)).trip (by omega) (by omega) rfl (fun t => k0_off31_eq _ t) (fun t => k0_off32_eq _ t) (fun l p => ?_) (fun u l => ?_) (fun t l => ?_)
    · exact congrArg (arg8.view.read (Elt F) X8) (idx_ix2 128 (128 * n) (k0_off28_eq _) _ l p (by omega) (by omega))
    · exact congrArg (arg19.view.read (Elt F) X19) (idx_ix2 (2 * n + u.val) 128 (k0_off29_eq _ u) _ 0 l (by show 2 * n + u.val + 0 < 56; omega) (by omega))
    · exact congrArg (arg18.view.read (Elt F) X18) (idx_ix2 (8 * n + t.val) 128 (k0_off30_eq _ t) _ 0 l (by show 8 * n + t.val + 0 < 224; omega) (by omega))

end Cert.KernelIdeal.Hand
-- ==== Proof.Vals.lean ====
module

public import proofs.«01_k».proof.Proof.Expand
public import Idealize.ShloMosaic.Lib.VecWindow
public import Idealize.ShloMosaic.Lib.WholeRead
public import Idealize.ShloMosaic.Lib.Pointwise

@[expose] public section

/-!
# What the body's buffers hold

Each buffer the body writes, as an array of the body's inputs: the expanded bit words and scales of a chunk, the dense
chunk, the row maxima, the codes and their scale, the gathered activations, and a block of the product.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A rectangle's own indices, by their two coordinates. -/
theorem emb_ix2 {m n a b : Nat} {off : Fin 2 → Nat} (r0 c0 : Nat) (e : off = ![r0, c0])
    (h : ∀ x, off x + (⟨2, ![a, b]⟩ : Shape).size x ≤ (⟨2, ![m, n]⟩ : Shape).size x) (p : Fin a) (q : Fin b) (hp : r0 + p.val < m) (hq : c0 + q.val < n) :
    (Rect.unit (s := ⟨2, ![m, n]⟩) off (⟨2, ![a, b]⟩ : Shape).size h).emb (ix2 p q) = ix2 ⟨r0 + p.val, hp⟩ ⟨c0 + q.val, hq⟩ :=
  idx_ix2 r0 c0 e h p q hp hq

section
variable {sg : RefSig} {κ : Kind} {sp : Space} {s : Shape} {e : EltTy}

/-- Pieces that are pieces of `G` and cover the array: whatever lies beneath, the array reads as `G`. -/
theorem read_cover (v : View sg κ sp s e) (f : v.ty.Contents (Elt F)) (G : s.Idx → Elt F e) (L M : List (View.Piece (Elt F) s e))
    (ha : ∀ p ∈ L, ∀ x, p.2 x = G (p.1.emb x)) (hc : ∀ y, ∃ p ∈ L, y ∈ p.1.set) :
    v.read (Elt F) (v.writes (Elt F) f (L ++ M)) = G := by
  rw [View.writes_append]
  funext y
  exact View.read_writes_apply_of_pieces v _ G L ha y (hc y)

end

section
variable {sg : RefSig} {κ κ' : Kind} {sp sp' : Space}

/-- The sixteen bits of a word of column indices the expansion reads: whether a group's first kept column is its column 0,
whether its second is its column 3, and whether the two kept columns lie in different halves. -/
def itE (w : BitVec 32) : BitVec 32 :=
  IntOp.ori
    (IntOp.andi (IntOp.andi (IntOp.xori w 858993459#32) (IntOp.shli ArithUnit.vector (IntOp.xori w 858993459#32) 1#32)) 2863311530#32)
    (IntOp.andi (IntOp.shrui ArithUnit.vector (IntOp.xori w (IntOp.shrui ArithUnit.vector w 2#32)) 1#32) 1431655765#32)

/-- The bit words of a chunk, transposed. -/
def itOf (wi : Vec F S256x224 .i32) : Vec F S224x256 .i32 := fun j => itE (wi (ix2 (j 1) (j 0)))

/-- The scales of a chunk, transposed and rounded to bf16. -/
def stOf (ws : Vec F S256x56 .f32) : Vec F S56x256 .f32 :=
  fun j => FloatOps.extf .f32 bitsLt_bf16_f32 (FloatOps.truncf .bf16 bitsLt_bf16_f32 (ws (ix2 (j 1) (j 0))))

/-- The dense chunk of 256 weight rows, transposed. -/
def denseOf (wv : Vec F S256x3584 .fp8e4m3) (wi : Vec F S256x224 .i32) (ws : Vec F S256x56 .f32) : Vec F S3584x2x256 .bf16 :=
  dense wv (itOf wi) (stOf ws)

/-- The buffer of bit words, once its two parts are stored, reads as the chunk's bit words. -/
theorem read_it (v : View sg κ sp S224x256 .i32) (f : v.ty.Contents (Elt F)) (m : Memref sg κ' sp' S256x224 .i32) (hm : m.IsWhole)
    (x : Vec F S256x224 .i32) (h1 h2 h3 h4) (M : List (View.Piece (Elt F) S224x256 .i32)) :
    v.read (Elt F) (v.writes (Elt F) f
      (⟨Rect.unit (s := S224x256) ![128, 0] S96x256.size h1, k0_pay539 (View.readAt (Elt F) m.view (Rect.unit (s := S256x224) ![0, 128] S256x96.size h2).toLoadRect (hm.unread x))⟩
        :: ⟨Rect.unit (s := S224x256) ![0, 0] S128x256.size h3, k0_pay538 (k0_pay536 (View.readAt (Elt F) m.view (Rect.unit (s := S256x224) ![0, 0] S256x128.size h4).toLoadRect (hm.unread x))) (k0_pay537 (View.readAt (Elt F) m.view (Rect.unit (s := S256x224) ![0, 0] S256x128.size h4).toLoadRect (hm.unread x))) 1431655765#32⟩
        :: M)) = itOf x := by
  refine read_cover v f (itOf x) [⟨Rect.unit (s := S224x256) ![128, 0] S96x256.size h1, _⟩, ⟨Rect.unit (s := S224x256) ![0, 0] S128x256.size h3, _⟩] M (fun p hp => ?_) (fun y => ?_)
  · rcases List.mem_cons.mp hp with rfl | hp
    · intro j
      idx_vars j
      refine Eq.trans ?_ (congrArg (itOf x) (emb_ix2 128 0 rfl h1 j0 j1 (by omega) (by omega)).symm)
      refine Eq.trans (b := itE (View.readAt (Elt F) m.view (Rect.unit (s := S256x224) ![0, 128] S256x96.size h2).toLoadRect (hm.unread x) (ix2 j1 j0))) (by pointwise [k0_pay539]; rfl) ?_
      rw [hm.readAt_unread]
      exact congrArg (fun i => itE (x i)) (idx_ix2 0 128 rfl h2 j1 j0 (by omega) (by omega) |>.trans (by congr 1 <;> simp))
    · obtain rfl := List.mem_singleton.mp hp
      intro j
      idx_vars j
      refine Eq.trans ?_ (congrArg (itOf x) (emb_ix2 0 0 rfl h3 j0 j1 (by omega) (by omega)).symm)
      refine Eq.trans (b := itE (View.readAt (Elt F) m.view (Rect.unit (s := S256x224) ![0, 0] S256x128.size h4).toLoadRect (hm.unread x) (ix2 j1 j0))) (by pointwise [k0_pay538, k0_pay536, k0_pay537, k0_pay535]; rfl) ?_
      rw [hm.readAt_unread]
      exact congrArg (fun i => itE (x i)) (idx_ix2 0 0 rfl h4 j1 j0 (by omega) (by omega) |>.trans (by congr 1 <;> simp))
  · idx_vars y
    by_cases h : y0.val < 128
    · refine ⟨_, List.mem_cons_of_mem _ (List.mem_singleton_self _), ?_⟩
      rw [Rect.mem_set_unit]
      intro a
      fin_cases a
      · exact ⟨by show 0 ≤ y0.val; omega, by show y0.val < 0 + 128; omega⟩
      · exact ⟨by show 0 ≤ y1.val; omega, by show y1.val < 0 + 256; omega⟩
    · refine ⟨_, List.mem_cons_self, ?_⟩
      rw [Rect.mem_set_unit]
      intro a
      fin_cases a
      · exact ⟨by show 128 ≤ y0.val; omega, by show y0.val < 128 + 96; omega⟩
      · exact ⟨by show 0 ≤ y1.val; omega, by show y1.val < 0 + 256; omega⟩

/-- One store of a whole array: the array reads as what was stored. -/
theorem read_full {s : Shape} {e : EltTy} (v : View sg κ sp s e) (f : v.ty.Contents (Elt F)) (G : s.Idx → Elt F e) {off : Fin s.rank → ℕ}
    (h : ∀ a, off a + s.size a ≤ s.size a) (w : s.Idx → Elt F e) (hw : w = G) (M : List (View.Piece (Elt F) s e)) :
    v.read (Elt F) (v.writes (Elt F) f (⟨Rect.unit off s.size h, w⟩ :: M)) = G := by
  subst hw
  have e0 : ∀ x : s.Idx, (Rect.unit (s := s) off s.size h).emb x = x := fun x => funext fun a => Fin.ext (by
    show off a + 1 * (x a).val = (x a).val
    have := h a
    omega)
  refine read_cover v f w [⟨Rect.unit off s.size h, w⟩] M (fun p hp => ?_) (fun y => ⟨_, List.mem_singleton_self _, ?_⟩)
  · obtain rfl := List.mem_singleton.mp hp
    exact fun x => congrArg w (e0 x).symm
  · rw [Rect.mem_set_unit]
    exact fun a => ⟨by have := h a; omega, by have := (y a).isLt; omega⟩

/-- The buffer of scales, once stored, reads as the chunk's scales. -/
theorem read_st (v : View sg κ sp S56x256 .f32) (f : v.ty.Contents (Elt F)) (m : Memref sg κ' sp' S256x56 .f32) (hm : m.IsWhole)
    (x : Vec F S256x56 .f32) (h1 h2) (M : List (View.Piece (Elt F) S56x256 .f32)) :
    v.read (Elt F) (v.writes (Elt F) f
      (⟨Rect.unit (s := S56x256) ![0, 0] S56x256.size h1, k0_pay540 (View.readAt (Elt F) m.view (Rect.unit (s := S256x56) ![0, 0] S256x56.size h2).toLoadRect (hm.unread x))⟩ :: M)) = stOf x := by
  refine read_full v f _ h1 _ ?_ M
  rw [View.readAt_full, hm.read_unread]
  funext j
  idx_vars j
  pointwise [k0_pay540]
  rfl

/-- The buffer of the dense chunk, once its two halves are written, reads as the dense chunk. -/
theorem read_dense (v : View sg κ sp S3584x2x256 .bf16) (f : v.ty.Contents (Elt F)) {n n' : Nat} {wv : Vec F S256x3584 .fp8e4m3} {it : Vec F S224x256 .i32} {st : Vec F S56x256 .f32}
    {L L' : List (View.Piece (Elt F) S3584x2x256 .bf16)} (M : List (View.Piece (Elt F) S3584x2x256 .bf16)) (h : Expands 0 n (dense wv it st) L) (h' : Expands 128 n' (dense wv it st) L')
    (hn : n = 28) (hn' : n' = 28) (wv' : Vec F S256x3584 .fp8e4m3) (wi : Vec F S256x224 .i32) (ws : Vec F S256x56 .f32)
    (ew : wv = wv') (ei : it = itOf wi) (es : st = stOf ws) :
    v.read (Elt F) (v.writes (Elt F) f (L' ++ (L ++ M))) = denseOf wv' wi ws := by
  subst hn hn' ew ei es
  rw [View.writes_append, View.writes_append]
  exact h.read v _ h'

/-- The same with nothing stored before. -/
theorem read_dense0 (v : View sg κ sp S3584x2x256 .bf16) (f : v.ty.Contents (Elt F)) {n n' : Nat} {wv : Vec F S256x3584 .fp8e4m3} {it : Vec F S224x256 .i32} {st : Vec F S56x256 .f32}
    {L L' : List (View.Piece (Elt F) S3584x2x256 .bf16)} (h : Expands 0 n (dense wv it st) L) (h' : Expands 128 n' (dense wv it st) L')
    (hn : n = 28) (hn' : n' = 28) (wv' : Vec F S256x3584 .fp8e4m3) (wi : Vec F S256x224 .i32) (ws : Vec F S256x56 .f32)
    (ew : wv = wv') (ei : it = itOf wi) (es : st = stOf ws) :
    v.read (Elt F) (v.writes (Elt F) f (L' ++ L)) = denseOf wv' wi ws := by
  subst hn hn' ew ei es
  rw [View.writes_append]
  exact h.read v _ h'

/-- A load of a whole array is the array. -/
theorem load_full {s : Shape} {e : EltTy} (m : Memref sg κ sp s e) (hm : m.IsWhole) (x : Vec F s e) {off : Fin s.rank → ℕ} (h : ∀ a, off a + s.size a ≤ s.size a) :
    View.readAt (Elt F) m.view (Rect.unit off s.size h).toLoadRect (hm.unread x) = x := by
  rw [View.readAt_full, hm.read_unread]

/-- Entry `(r, c)` of a 256-column block of the product, scaled and rounded. -/
def yHalf (da : Vec F S3584x2x256 .bf16) (xp : Vec F S256x7168 .bf16) (xs : Vec F S256x128 .f32) (r c : Fin 256) : F .bf16 :=
  FloatOps.truncf .bf16 bitsLt_bf16_f32 (FloatOps.mulf (k0_pay532 da xp (ix2 r c)) (xs (ix2 r ⟨c.val % 128, by omega⟩)))

/-- A point's 512 columns of the product: 256 from each of two dense chunks. -/
def yOf (xp : Vec F S256x7168 .bf16) (xs : Vec F S256x128 .f32) (da db : Vec F S3584x2x256 .bf16) : Vec F S256x512 .bf16 :=
  fun j => if h : (j 1).val < 256 then yHalf da xp xs (j 0) ⟨(j 1).val, h⟩
    else yHalf db xp xs (j 0) ⟨(j 1).val - 256, by have : (j 1).val < 512 := (j 1).isLt; omega⟩

/-- The first 256 columns of a point's block. -/
theorem yOf_lo (xp : Vec F S256x7168 .bf16) (xs : Vec F S256x128 .f32) (da db : Vec F S3584x2x256 .bf16) (r : Fin 256) (c : Fin 512) (d : Fin 256)
    (h : c.val = d.val) : yOf xp xs da db (ix2 r c) = yHalf da xp xs r d := by
  have hc : c.val < 256 := by omega
  refine (dif_pos (c := ((ix2 r c : S256x512.Idx) 1).val < 256) hc).trans ?_
  exact congrArg (yHalf da xp xs r) (Fin.ext h)

/-- The last 256 columns of a point's block. -/
theorem yOf_hi (xp : Vec F S256x7168 .bf16) (xs : Vec F S256x128 .f32) (da db : Vec F S3584x2x256 .bf16) (r : Fin 256) (c : Fin 512) (d : Fin 256)
    (h : c.val = 256 + d.val) : yOf xp xs da db (ix2 r c) = yHalf db xp xs r d := by
  have hc : ¬ c.val < 256 := by omega
  refine (dif_neg (c := ((ix2 r c : S256x512.Idx) 1).val < 256) hc).trans ?_
  exact congrArg (yHalf db xp xs r) (Fin.ext (by show c.val - 256 = d.val; omega))

/-- The output block, once its four parts are stored, reads as the point's block of the product. -/
theorem read_y (v : View sg κ sp S256x512 .bf16) (f : v.ty.Contents (Elt F)) (h0 h1 h2 h3)
    (da db : Vec F S3584x2x256 .bf16) (xp : Vec F S256x7168 .bf16) (xs : Vec F S256x128 .f32)
    (da0 da1 db2 db3 : Vec F S3584x2x256 .bf16) (xp0 xp1 xp2 xp3 : Vec F S256x7168 .bf16) (xs0 xs1 xs2 xs3 : Vec F S256x128 .f32)
    (ea0 : da0 = da) (ea1 : da1 = da) (eb2 : db2 = db) (eb3 : db3 = db) (ep0 : xp0 = xp) (ep1 : xp1 = xp) (ep2 : xp2 = xp) (ep3 : xp3 = xp)
    (es0 : xs0 = xs) (es1 : xs1 = xs) (es2 : xs2 = xs) (es3 : xs3 = xs) :
    v.read (Elt F) (v.writes (Elt F) f
      [⟨Rect.unit (s := S256x512) ![0, 384] S256x128.size h3, k0_pay546 db3 xp3 xs3⟩, ⟨Rect.unit (s := S256x512) ![0, 256] S256x128.size h2, k0_pay545 db2 xp2 xs2⟩,
        ⟨Rect.unit (s := S256x512) ![0, 128] S256x128.size h1, k0_pay534 da1 xp1 xs1⟩, ⟨Rect.unit (s := S256x512) ![0, 0] S256x128.size h0, k0_pay533 da0 xp0 xs0⟩])
      = yOf xp xs da db := by
  subst ea0 ea1 eb2 eb3 ep0 ep1 ep2 ep3 es0 es1 es2 es3
  have hlt : ∀ q : Fin 128, q.val < 128 := fun q => q.isLt
  refine (congrArg (fun L => v.read (Elt F) (v.writes (Elt F) f L)) (List.append_nil _).symm).trans (read_cover v f _ _ [] (fun p hp => ?_) (fun y => ?_))
  · rcases List.mem_cons.mp hp with rfl | hp
    · intro j
      idx_vars j
      refine Eq.trans ?_ (congrArg (yOf _ _ _ _) (emb_ix2 0 384 rfl h3 j0 j1 (by omega) (by omega)).symm)
      rw [yOf_hi _ _ _ _ _ _ ⟨128 + j1.val, by omega⟩ (by show 384 + j1.val = 256 + (128 + j1.val); omega)]
      pointwise [k0_pay546]
      unfold yHalf
      congr 3 <;> (try congr 1) <;> (try ext1) <;> simp <;> omega
    rcases List.mem_cons.mp hp with rfl | hp
    · intro j
      idx_vars j
      refine Eq.trans ?_ (congrArg (yOf _ _ _ _) (emb_ix2 0 256 rfl h2 j0 j1 (by omega) (by omega)).symm)
      rw [yOf_hi _ _ _ _ _ _ ⟨j1.val, by omega⟩ (by show 256 + j1.val = 256 + j1.val; omega)]
      pointwise [k0_pay545]
      unfold yHalf
      congr 3 <;> (try congr 1) <;> (try ext1) <;> simp <;> omega
    rcases List.mem_cons.mp hp with rfl | hp
    · intro j
      idx_vars j
      refine Eq.trans ?_ (congrArg (yOf _ _ _ _) (emb_ix2 0 128 rfl h1 j0 j1 (by omega) (by omega)).symm)
      rw [yOf_lo _ _ _ _ _ _ ⟨128 + j1.val, by omega⟩ (by show 128 + j1.val = 128 + j1.val; omega)]
      pointwise [k0_pay534]
      unfold yHalf
      congr 3 <;> (try congr 1) <;> (try ext1) <;> simp <;> omega
    obtain rfl := List.mem_singleton.mp hp
    · intro j
      idx_vars j
      refine Eq.trans ?_ (congrArg (yOf _ _ _ _) (emb_ix2 0 0 rfl h0 j0 j1 (by omega) (by omega)).symm)
      rw [yOf_lo _ _ _ _ _ _ ⟨j1.val, by omega⟩ (by show 0 + j1.val = j1.val; omega)]
      pointwise [k0_pay533]
      unfold yHalf
      congr 3 <;> (try congr 1) <;> (try ext1) <;> simp <;> omega
  · idx_vars y
    have key : ∀ (o : Nat) (h : ∀ a, (![0, o] : Fin 2 → Nat) a + S256x128.size a ≤ S256x512.size a), o ≤ y1.val → y1.val < o + 128 →
        (ix2 y0 y1 : S256x512.Idx) ∈ (Rect.unit (s := S256x512) ![0, o] S256x128.size h).set := by
      intro o h l u
      rw [Rect.mem_set_unit]
      intro a
      fin_cases a
      · exact ⟨by show 0 ≤ y0.val; omega, by show y0.val < 0 + 256; omega⟩
      · exact ⟨l, u⟩
    by_cases c3 : 384 ≤ y1.val
    · exact ⟨_, List.mem_cons_self, key 384 h3 c3 (by omega)⟩
    by_cases c2 : 256 ≤ y1.val
    · exact ⟨_, List.mem_cons_of_mem _ List.mem_cons_self, key 256 h2 c2 (by omega)⟩
    by_cases c1 : 128 ≤ y1.val
    · exact ⟨_, List.mem_cons_of_mem _ (List.mem_cons_of_mem _ List.mem_cons_self), key 128 h1 c1 (by omega)⟩
    · exact ⟨_, List.mem_cons_of_mem _ (List.mem_cons_of_mem _ (List.mem_cons_of_mem _ List.mem_cons_self)), key 0 h0 (by omega) (by omega)⟩

end

end Cert.KernelIdeal.Hand
-- ==== Proof.Quant.lean ====
module

public import proofs.«01_k».proof.Proof.Vals

@[expose] public section

/-!
# What the first point's quantiser leaves

The row maxima the first loop carries, and the codes and the gathered activations the second loop writes block by block,
as arrays of the activations.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Columns `128 k` to `128 k + 127` of the activations. -/
def blkOf (x : Vec F S256x7168 .bf16) (k : Nat) : Vec F S256x128 .bf16 := fun j => x (ix2 (j 0) ⟨(128 * k + (j 1).val) % 7168, Nat.mod_lt _ (by decide)⟩)

/-- The greatest magnitudes lane by lane over the first `k + 1` blocks of 128 columns. -/
def maxAcc (x : Vec F S256x7168 .bf16) : Nat → FVec F S256x128 .bf16
  | 0 => k0_pay174 (blkOf x 0)
  | k + 1 => k0_pay175 (maxAcc x k) (blkOf x (k + 1))

/-- The row scales. -/
def scaleOf (x : Vec F S256x7168 .bf16) : Vec F S256x1 .f32 := k0_pay177 (maxAcc x 55)

/-- The row scales along 128 lanes. -/
def xsOf (x : Vec F S256x7168 .bf16) : Vec F S256x128 .f32 := k0_pay180 (k0_pay179 (maxAcc x 55))

/-- The codes of the activations. -/
def codesOf (x : Vec F S256x7168 .bf16) : Vec F S256x7168 .fp8e4m3 :=
  fun j => k0_pay181 (k0_pay178 (maxAcc x 55)) (blkOf x ((j 1).val / 128)) (ix2 (j 0) ⟨(j 1).val % 128, Nat.mod_lt _ (by decide)⟩)

/-- The codes as bf16, each 32 columns in the order the expanded weights are written in. -/
def xpOf (x : Vec F S256x7168 .bf16) : Vec F S256x7168 .bf16 :=
  fun j => k0_pay182 (k0_pay178 (maxAcc x 55)) (blkOf x ((j 1).val / 128)) (ix2 (j 0) ⟨(j 1).val % 128, Nat.mod_lt _ (by decide)⟩)

/-- A load of 128 columns of the activations is the block of them. -/
theorem readAt_blk {sg : RefSig} {κ : Kind} {sp : Space} (m : Memref sg κ sp S256x7168 .bf16) (hm : m.IsWhole) (x : Vec F S256x7168 .bf16) (k : Nat)
    {off : Fin 2 → Nat} (e : off = ![0, 128 * k]) (hk : k < 56) (h) :
    View.readAt (Elt F) m.view (Rect.unit (s := S256x7168) off S256x128.size h).toLoadRect (hm.unread x) = blkOf x k := by
  funext j
  idx_vars j
  rw [hm.readAt_unread]
  refine congrArg x ((idx_ix2 0 (128 * k) e h j0 j1 (by omega) (by omega)).trans ?_)
  have h0 : (⟨0 + j0.val, by omega⟩ : Fin 256) = j0 := Fin.ext (by show 0 + j0.val = j0.val; omega)
  have h1 : (⟨128 * k + j1.val, by omega⟩ : Fin 7168) = ⟨(128 * k + j1.val) % 7168, Nat.mod_lt _ (by decide)⟩ :=
    Fin.ext (by show 128 * k + j1.val = (128 * k + j1.val) % 7168; omega)
  rw [h0, h1]
  rfl

variable {𝒱 : Variants} {c : Dev nD} {bd : Option 𝒱.V} {i : grid0.Coords} {arg1 : Memref sig .tc .vmem S256x7168 .bf16} {harg1 : arg1.IsWhole} {arg2 : Memref sig .tc .vmem S256x3584 .fp8e4m3} {harg2 : arg2.IsWhole} {arg3 : Memref sig .tc .vmem S256x224 .i32} {harg3 : arg3.IsWhole} {arg4 : Memref sig .tc .vmem S256x56 .f32} {harg4 : arg4.IsWhole} {arg5 : Memref sig .tc .vmem S256x3584 .fp8e4m3} {harg5 : arg5.IsWhole} {arg6 : Memref sig .tc .vmem S256x224 .i32} {harg6 : arg6.IsWhole} {arg7 : Memref sig .tc .vmem S256x56 .f32} {harg7 : arg7.IsWhole} {arg8 : Memref sig .tc .vmem S256x3584 .fp8e4m3} {harg8 : arg8.IsWhole} {arg9 : Memref sig .tc .vmem S256x224 .i32} {harg9 : arg9.IsWhole} {arg10 : Memref sig .tc .vmem S256x56 .f32} {harg10 : arg10.IsWhole} {arg11 : Memref sig .tc .vmem S256x512 .bf16} {harg11 : arg11.IsWhole} {arg12 : Memref sig .tc .vmem S256x7168 .fp8e4m3} {harg12 : arg12.IsWhole} {arg13 : Memref sig .tc .vmem S256x1 .f32} {harg13 : arg13.IsWhole} {arg14 : Memref sig .tc .vmem S256x7168 .bf16} {harg14 : arg14.IsWhole} {arg15 : Memref sig .tc .vmem S256x128 .f32} {harg15 : arg15.IsWhole} {arg16 : Memref sig .tc .vmem S224x256 .i32} {harg16 : arg16.IsWhole} {arg17 : Memref sig .tc .vmem S56x256 .f32} {harg17 : arg17.IsWhole} {arg18 : Memref sig .tc .vmem S224x256 .i32} {harg18 : arg18.IsWhole} {arg19 : Memref sig .tc .vmem S56x256 .f32} {harg19 : arg19.IsWhole} {arg20 : Memref sig .tc .vmem S3584x2x256 .bf16} {harg20 : arg20.IsWhole} {arg21 : Memref sig .tc .vmem S3584x2x256 .bf16} {harg21 : arg21.IsWhole}

/-- What the first loop carries is the greatest magnitudes so far. -/
theorem st_t1 (k0_h1 : k0_cond1 i = 1#1) (x : Vec F S256x7168 .bf16) (init : FVec F S256x128 .bf16) (hi : init = k0_pay174 (blkOf x 0)) (n : Nat) (hn : n ≤ 55) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg1.unread x) init n = maxAcc x n := by
  subst hi
  induction n with
  | zero => rfl
  | succ n ih =>
    have hl : n < k0_t1_loop.trips := by
      have e : k0_t1_loop.trips = 55 := by decide +kernel
      omega
    rw [show n + 1 = (⟨n, hl⟩ : Fin k0_t1_loop.trips).val + 1 from rfl, st_k0_t1_succ, ih (by omega)]
    unfold tripR_k0_t1 trip_k0_t1
    refine Eq.trans ?_ (congrArg (k0_pay175 (maxAcc x n)) (readAt_blk arg1 harg1 x (n + 1) ((k0_off1_eq ⟨n, hl⟩).trans ?_) (by omega) ?_))
    · rfl
    · congr 2

/-- The pieces `L` are pieces of `D` and cover the columns below `128 n`. -/
structure Fills {e : EltTy} (n : Nat) (D : S256x7168.Idx → Elt F e) (L : List (View.Piece (Elt F) S256x7168 e)) : Prop where
  agree : ∀ p ∈ L, ∀ x : p.1.shape.Idx, p.2 x = D (p.1.emb x)
  cover : ∀ y : S256x7168.Idx, (y 1).val < 128 * n → ∃ p ∈ L, y ∈ p.1.set

/-- One block more. -/
theorem Fills.block {e : EltTy} {n : Nat} (hn : n < 56) {D : S256x7168.Idx → Elt F e} {L : List (View.Piece (Elt F) S256x7168 e)} (h : Fills n D L)
    {off : Fin 2 → Nat} (eo : off = ![0, 128 * n]) (hb : ∀ a, off a + S256x128.size a ≤ S256x7168.size a) (w : S256x128.Idx → Elt F e)
    (hw : ∀ (r : Fin 256) (l : Fin 128), w (ix2 r l) = D (ix2 r ⟨128 * n + l.val, by omega⟩)) :
    Fills (n + 1) D (⟨Rect.unit (s := S256x7168) off S256x128.size hb, w⟩ :: L) := by
  refine ⟨fun p hp => ?_, fun y hy => ?_⟩
  · rcases List.mem_cons.mp hp with rfl | hp
    · intro j
      idx_vars j
      refine (hw j0 j1).trans (congrArg D ?_)
      refine Eq.trans ?_ (emb_ix2 0 (128 * n) eo hb j0 j1 (by omega) (by omega)).symm
      congr 1
      exact Fin.ext (by show j0.val = 0 + j0.val; omega)
    · exact h.agree p hp
  · by_cases hc : (y 1).val < 128 * n
    · obtain ⟨p, hp, hm⟩ := h.cover y hc
      exact ⟨p, List.mem_cons_of_mem _ hp, hm⟩
    · refine ⟨_, List.mem_cons_self, ?_⟩
      rw [Rect.mem_set_unit]
      subst eo
      have h0 : (y 0).val < 256 := (y 0).isLt
      intro a
      fin_cases a
      · exact ⟨by show 0 ≤ (y 0).val; omega, by show (y 0).val < 0 + 256; omega⟩
      · exact ⟨by show 128 * n ≤ (y 1).val; omega, by show (y 1).val < 128 * n + 128; omega⟩

/-- All 56 blocks written, the array reads as `D`. -/
theorem Fills.read {e : EltTy} {n : Nat} {D : S256x7168.Idx → Elt F e} {L : List (View.Piece (Elt F) S256x7168 e)} (h : Fills n D L) (hn : n = 56)
    {sg : RefSig} {κ : Kind} {sp : Space} (v : View sg κ sp S256x7168 e) (f : v.ty.Contents (Elt F)) :
    v.read (Elt F) (v.writes (Elt F) f L) = D := by
  subst hn
  funext y
  have h1 : (y 1).val < 7168 := (y 1).isLt
  exact View.read_writes_apply_of_pieces v f D L h.agree y (h.cover y (by omega))

/-- The second loop writes the codes and the gathered codes. -/
theorem fills_t2 (k0_h1 : k0_cond1 i = 1#1) (x : Vec F S256x7168 .bf16) (inv sc : FVec F S256x1 .f32) (hv : inv = k0_pay178 (maxAcc x 55)) (n : Nat) (hn : n ≤ 56) :
    Fills n (codesOf x) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 inv sc (harg1.unread x) n).1
      ∧ Fills n (xpOf x) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 inv sc (harg1.unread x) n).2 := by
  subst hv
  induction n with
  | zero => exact ⟨⟨fun p hp => absurd hp List.not_mem_nil, fun y h => absurd h (by omega)⟩, ⟨fun p hp => absurd hp List.not_mem_nil, fun y h => absurd h (by omega)⟩⟩
  | succ n ih =>
    have hl : n < k0_t2_loop.trips := by
      have e : k0_t2_loop.trips = 56 := by decide +kernel
      omega
    rw [show n + 1 = (⟨n, hl⟩ : Fin k0_t2_loop.trips).val + 1 from rfl, pb_k0_t2_succ]
    unfold tripL_k0_t2 trip_k0_t2
    have blk : ∀ h, View.readAt (Elt F) arg1.view (Rect.unit (s := S256x7168) (k0_off2 ⟨n, hl⟩) S256x128.size h).toLoadRect (harg1.unread x) = blkOf x n :=
      readAt_blk arg1 harg1 x n (k0_off2_eq ⟨n, hl⟩) (by omega)
    have q : ∀ l : Fin 128, (128 * n + l.val) / 128 = n ∧ (⟨(128 * n + l.val) % 128, Nat.mod_lt _ (by decide)⟩ : Fin 128) = l :=
      fun l => ⟨by omega, Fin.ext (by show (128 * n + l.val) % 128 = l.val; omega)⟩
    refine ⟨(ih (by omega)).1.block (by omega) (k0_off2_eq ⟨n, hl⟩) _ _ fun r l => ?_, (ih (by omega)).2.block (by omega) (k0_off2_eq ⟨n, hl⟩) _ _ fun r l => ?_⟩
    · refine (congrArg (fun b => k0_pay181 (k0_pay178 (maxAcc x 55)) b (ix2 r l)) (blk (k0_off2_inb i ⟨n, hl⟩ k0_h1))).trans ?_
      show _ = k0_pay181 (k0_pay178 (maxAcc x 55)) (blkOf x ((128 * n + l.val) / 128)) (ix2 r ⟨(128 * n + l.val) % 128, _⟩)
      rw [(q l).1, (q l).2]
    · refine (congrArg (fun b => k0_pay182 (k0_pay178 (maxAcc x 55)) b (ix2 r l)) (blk (k0_off2_inb i ⟨n, hl⟩ k0_h1))).trans ?_
      show _ = k0_pay182 (k0_pay178 (maxAcc x 55)) (blkOf x ((128 * n + l.val) / 128)) (ix2 r ⟨(128 * n + l.val) % 128, _⟩)
      rw [(q l).1, (q l).2]

/-- After all its trips. -/
theorem amax_t1 (k0_h1 : k0_cond1 i = 1#1) (x : Vec F S256x7168 .bf16) (init : FVec F S256x128 .bf16) (hi : init = k0_pay174 (blkOf x 0)) (n : Nat) (hn : n = 55) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg1.unread x) init n = maxAcc x 55 := by
  subst hn
  exact st_t1 k0_h1 x init hi 55 (le_refl _)

end Cert.KernelIdeal.Hand
-- ==== Proof.RunA.lean ====
module

public import proofs.«01_k».proof.Proof.Setup
public import proofs.«01_k».proof.Proof.Vals
public import proofs.«01_k».proof.Proof.Quant

@[expose] public section

/-!
# What the first point leaves

The body at the first point, on any buffers: the quantiser runs, and both dense chunks are expanded here.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 6400000 in
/-- The first point: the codes, the scales, the gathered codes, the block of the product, and the next first dense chunk. -/
theorem run_A (c : Dev nD) (i : grid0.Coords) (arg1 : Memref sig .tc .vmem S256x7168 .bf16) (harg1 : arg1.IsWhole) (arg2 : Memref sig .tc .vmem S256x3584 .fp8e4m3) (harg2 : arg2.IsWhole) (arg3 : Memref sig .tc .vmem S256x224 .i32) (harg3 : arg3.IsWhole) (arg4 : Memref sig .tc .vmem S256x56 .f32) (harg4 : arg4.IsWhole) (arg5 : Memref sig .tc .vmem S256x3584 .fp8e4m3) (harg5 : arg5.IsWhole) (arg6 : Memref sig .tc .vmem S256x224 .i32) (harg6 : arg6.IsWhole) (arg7 : Memref sig .tc .vmem S256x56 .f32) (harg7 : arg7.IsWhole) (arg8 : Memref sig .tc .vmem S256x3584 .fp8e4m3) (harg8 : arg8.IsWhole) (arg9 : Memref sig .tc .vmem S256x224 .i32) (harg9 : arg9.IsWhole) (arg10 : Memref sig .tc .vmem S256x56 .f32) (harg10 : arg10.IsWhole) (arg11 : Memref sig .tc .vmem S256x512 .bf16) (harg11 : arg11.IsWhole) (arg12 : Memref sig .tc .vmem S256x7168 .fp8e4m3) (harg12 : arg12.IsWhole) (arg13 : Memref sig .tc .vmem S256x1 .f32) (harg13 : arg13.IsWhole) (arg14 : Memref sig .tc .vmem S256x7168 .bf16) (harg14 : arg14.IsWhole) (arg15 : Memref sig .tc .vmem S256x128 .f32) (harg15 : arg15.IsWhole) (arg16 : Memref sig .tc .vmem S224x256 .i32) (harg16 : arg16.IsWhole) (arg17 : Memref sig .tc .vmem S56x256 .f32) (harg17 : arg17.IsWhole) (arg18 : Memref sig .tc .vmem S224x256 .i32) (harg18 : arg18.IsWhole) (arg19 : Memref sig .tc .vmem S56x256 .f32) (harg19 : arg19.IsWhole) (arg20 : Memref sig .tc .vmem S3584x2x256 .bf16) (harg20 : arg20.IsWhole) (arg21 : Memref sig .tc .vmem S3584x2x256 .bf16) (harg21 : arg21.IsWhole) (hc0 : cond0_0 i)
    (x1 : Vec F S256x7168 .bf16) (x2 : Vec F S256x3584 .fp8e4m3) (x3 : Vec F S256x224 .i32) (x4 : Vec F S256x56 .f32) (x5 : Vec F S256x3584 .fp8e4m3) (x6 : Vec F S256x224 .i32) (x7 : Vec F S256x56 .f32) (x8 : Vec F S256x3584 .fp8e4m3) (x9 : Vec F S256x224 .i32) (x10 : Vec F S256x56 .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (yOf (xpOf x1) (xsOf x1) (denseOf x2 x3 x4) (denseOf x5 x6 x7)) ∗ owns (c : Thread nD τ) arg12 fullShare (codesOf x1) ∗ owns (c : Thread nD τ) arg13 fullShare (scaleOf x1) ∗ owns (c : Thread nD τ) arg14 fullShare (xpOf x1) ∗ owns (c : Thread nD τ) arg15 fullShare (xsOf x1) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (denseOf x8 x9 x10) ∗ (∃ d, owns (c : Thread nD τ) arg21 fullShare d)) -∗ K ⟨⟩))
        ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0_sparse24_linear_eq_skeleton]; unfold cc0_sparse24_linear_skel
  simp only [k0_part58_eq_skeleton, k0_part19_eq_skeleton, k0_part20_eq_skeleton, k0_part21_eq_skeleton, k0_part59_eq_skeleton, k0_part60_eq_skeleton, k0_part61_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    exact read_y _ _ _ _ _ _ (denseOf x2 x3 x4) (denseOf x5 x6 x7) (xpOf x1) (xsOf x1) _ _ _ _ _ _ _ _ _ _ _ _
      ((View.readAt_full _ _ _).trans (read_dense0 _ _ (expands_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ (by decide +kernel)) (expands_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ (by decide +kernel)) (by decide +kernel) (by decide +kernel) _ _ _ (harg2.read_unread _) (by first | exact read_it _ _ arg3 harg3 x3 _ _ _ _ [] | exact read_it _ _ arg3 harg3 x3 _ _ _ _ _) (by first | exact read_st _ _ arg4 harg4 x4 _ _ [] | exact read_st _ _ arg4 harg4 x4 _ _ _))) ((View.readAt_full _ _ _).trans (read_dense0 _ _ (expands_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ (by decide +kernel)) (expands_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ (by decide +kernel)) (by decide +kernel) (by decide +kernel) _ _ _ (harg2.read_unread _) (by first | exact read_it _ _ arg3 harg3 x3 _ _ _ _ [] | exact read_it _ _ arg3 harg3 x3 _ _ _ _ _) (by first | exact read_st _ _ arg4 harg4 x4 _ _ [] | exact read_st _ _ arg4 harg4 x4 _ _ _)))
      ((View.readAt_full _ _ _).trans (read_dense0 _ _ (expands_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (expands_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (by decide +kernel) (by decide +kernel) _ _ _ (harg5.read_unread _) (by first | exact read_it _ _ arg6 harg6 x6 _ _ _ _ [] | exact read_it _ _ arg6 harg6 x6 _ _ _ _ _) (by first | exact read_st _ _ arg7 harg7 x7 _ _ [] | exact read_st _ _ arg7 harg7 x7 _ _ _)))
      ((View.readAt_full _ _ _).trans (read_dense0 _ _ (expands_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (expands_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (by decide +kernel) (by decide +kernel) _ _ _ (harg5.read_unread _) (by first | exact read_it _ _ arg6 harg6 x6 _ _ _ _ [] | exact read_it _ _ arg6 harg6 x6 _ _ _ _ _) (by first | exact read_st _ _ arg7 harg7 x7 _ _ [] | exact read_st _ _ arg7 harg7 x7 _ _ _)))
      ((View.readAt_full _ _ _).trans ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).2.read (by decide +kernel) _ _)) ((View.readAt_full _ _ _).trans ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).2.read (by decide +kernel) _ _)) ((View.readAt_full _ _ _).trans ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).2.read (by decide +kernel) _ _)) ((View.readAt_full _ _ _).trans ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).2.read (by decide +kernel) _ _)) ((View.readAt_full _ _ _).trans (read_full _ _ _ _ _ (congrArg (fun a => k0_pay180 (k0_pay179 a)) (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) [])) ((View.readAt_full _ _ _).trans (read_full _ _ _ _ _ (congrArg (fun a => k0_pay180 (k0_pay179 a)) (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) [])) ((View.readAt_full _ _ _).trans (read_full _ _ _ _ _ (congrArg (fun a => k0_pay180 (k0_pay179 a)) (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) [])) ((View.readAt_full _ _ _).trans (read_full _ _ _ _ _ (congrArg (fun a => k0_pay180 (k0_pay179 a)) (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) []))
  isplitl [H12]
  · iexists _; isplitr; swap; · iexact H12
    ipureintro
    exact ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).1.read (by decide +kernel) _ _)
  isplitl [H13]
  · iexists _; isplitr; swap; · iexact H13
    ipureintro
    exact (read_full _ _ _ _ _ (congrArg k0_pay177 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) [])
  isplitl [H14]
  · iexists _; isplitr; swap; · iexact H14
    ipureintro
    exact ((fills_t2 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ _ (congrArg k0_pay178 (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) _ (by decide +kernel)).2.read (by decide +kernel) _ _)
  isplitl [H15]
  · iexists _; isplitr; swap; · iexact H15
    ipureintro
    exact (read_full _ _ _ _ _ (congrArg (fun a => k0_pay180 (k0_pay179 a)) (amax_t1 (𝒱 := Variants.none) (c := c) (bd := none) (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) hc0 x1 _ (congrArg k0_pay174 (readAt_blk arg1 harg1 x1 0 rfl (by decide) _)) _ (by decide +kernel))) [])
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _; isplitr; swap; · iexact H20
    ipureintro
    first | exact (read_dense _ _ _ (expands_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (expands_t8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (by decide +kernel) (by decide +kernel) _ _ _ (harg8.read_unread _) (by first | exact read_it _ _ arg9 harg9 x9 _ _ _ _ [] | exact read_it _ _ arg9 harg9 x9 _ _ _ _ _) (by first | exact read_st _ _ arg10 harg10 x10 _ _ [] | exact read_st _ _ arg10 harg10 x10 _ _ _)) | exact (read_dense0 _ _ (expands_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (expands_t8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (by decide +kernel) (by decide +kernel) _ _ _ (harg8.read_unread _) (by first | exact read_it _ _ arg9 harg9 x9 _ _ _ _ [] | exact read_it _ _ arg9 harg9 x9 _ _ _ _ _) (by first | exact read_st _ _ arg10 harg10 x10 _ _ [] | exact read_st _ _ arg10 harg10 x10 _ _ _))
  · iexists _, _; isplitr; swap; · iexact H21
    ipureintro; rfl

end Cert.KernelIdeal.Hand
-- ==== Proof.RunB.lean ====
module

public import proofs.«01_k».proof.Proof.Setup
public import proofs.«01_k».proof.Proof.Vals
public import proofs.«01_k».proof.Proof.Quant

@[expose] public section

/-!
# What a later point leaves

The body at a point other than the first, on any buffers: it takes the gathered codes, the scales and the first dense chunk as found.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 3200000 in
/-- A later point: the block of the product from the gathered codes, the scales and the two dense chunks; the next first dense chunk; all else as found. -/
theorem run_B (c : Dev nD) (i : grid0.Coords) (arg1 : Memref sig .tc .vmem S256x7168 .bf16) (harg1 : arg1.IsWhole) (arg2 : Memref sig .tc .vmem S256x3584 .fp8e4m3) (harg2 : arg2.IsWhole) (arg3 : Memref sig .tc .vmem S256x224 .i32) (harg3 : arg3.IsWhole) (arg4 : Memref sig .tc .vmem S256x56 .f32) (harg4 : arg4.IsWhole) (arg5 : Memref sig .tc .vmem S256x3584 .fp8e4m3) (harg5 : arg5.IsWhole) (arg6 : Memref sig .tc .vmem S256x224 .i32) (harg6 : arg6.IsWhole) (arg7 : Memref sig .tc .vmem S256x56 .f32) (harg7 : arg7.IsWhole) (arg8 : Memref sig .tc .vmem S256x3584 .fp8e4m3) (harg8 : arg8.IsWhole) (arg9 : Memref sig .tc .vmem S256x224 .i32) (harg9 : arg9.IsWhole) (arg10 : Memref sig .tc .vmem S256x56 .f32) (harg10 : arg10.IsWhole) (arg11 : Memref sig .tc .vmem S256x512 .bf16) (harg11 : arg11.IsWhole) (arg12 : Memref sig .tc .vmem S256x7168 .fp8e4m3) (harg12 : arg12.IsWhole) (arg13 : Memref sig .tc .vmem S256x1 .f32) (harg13 : arg13.IsWhole) (arg14 : Memref sig .tc .vmem S256x7168 .bf16) (harg14 : arg14.IsWhole) (arg15 : Memref sig .tc .vmem S256x128 .f32) (harg15 : arg15.IsWhole) (arg16 : Memref sig .tc .vmem S224x256 .i32) (harg16 : arg16.IsWhole) (arg17 : Memref sig .tc .vmem S56x256 .f32) (harg17 : arg17.IsWhole) (arg18 : Memref sig .tc .vmem S224x256 .i32) (harg18 : arg18.IsWhole) (arg19 : Memref sig .tc .vmem S56x256 .f32) (harg19 : arg19.IsWhole) (arg20 : Memref sig .tc .vmem S3584x2x256 .bf16) (harg20 : arg20.IsWhole) (arg21 : Memref sig .tc .vmem S3584x2x256 .bf16) (harg21 : arg21.IsWhole) (hc0 : ¬ cond0_0 i)
    (x1 : Vec F S256x7168 .bf16) (x2 : Vec F S256x3584 .fp8e4m3) (x3 : Vec F S256x224 .i32) (x4 : Vec F S256x56 .f32) (x5 : Vec F S256x3584 .fp8e4m3) (x6 : Vec F S256x224 .i32) (x7 : Vec F S256x56 .f32) (x8 : Vec F S256x3584 .fp8e4m3) (x9 : Vec F S256x224 .i32) (x10 : Vec F S256x56 .f32) (dc : Vec F S256x7168 .fp8e4m3) (ds : Vec F S256x1 .f32) (xp : Vec F S256x7168 .bf16) (xs : Vec F S256x128 .f32) (da : Vec F S3584x2x256 .bf16) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare dc ∗ owns (c : Thread nD τ) arg13 fullShare ds ∗ owns (c : Thread nD τ) arg14 fullShare xp ∗ owns (c : Thread nD τ) arg15 fullShare xs ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare da ∗ (∃ d, owns (c : Thread nD τ) arg21 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (yOf xp xs da (denseOf x5 x6 x7)) ∗ owns (c : Thread nD τ) arg12 fullShare dc ∗ owns (c : Thread nD τ) arg13 fullShare ds ∗ owns (c : Thread nD τ) arg14 fullShare xp ∗ owns (c : Thread nD τ) arg15 fullShare xs ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (denseOf x8 x9 x10) ∗ (∃ d, owns (c : Thread nD τ) arg21 fullShare d)) -∗ K ⟨⟩))
        ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0_sparse24_linear_eq_skeleton]; unfold cc0_sparse24_linear_skel
  simp only [k0_part58_eq_skeleton, k0_part19_eq_skeleton, k0_part20_eq_skeleton, k0_part21_eq_skeleton, k0_part59_eq_skeleton, k0_part60_eq_skeleton, k0_part61_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg20.eq_unread hf20
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    exact read_y _ _ _ _ _ _ da (denseOf x5 x6 x7) xp xs _ _ _ _ _ _ _ _ _ _ _ _
      (load_full arg20 harg20 da _) (load_full arg20 harg20 da _)
      ((View.readAt_full _ _ _).trans (read_dense0 _ _ (expands_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (expands_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (by decide +kernel) (by decide +kernel) _ _ _ (harg5.read_unread _) (by first | exact read_it _ _ arg6 harg6 x6 _ _ _ _ [] | exact read_it _ _ arg6 harg6 x6 _ _ _ _ _) (by first | exact read_st _ _ arg7 harg7 x7 _ _ [] | exact read_st _ _ arg7 harg7 x7 _ _ _)))
      ((View.readAt_full _ _ _).trans (read_dense0 _ _ (expands_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (expands_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by rfl) (by rfl) _ _ _ _ (by decide +kernel)) (by decide +kernel) (by decide +kernel) _ _ _ (harg5.read_unread _) (by first | exact read_it _ _ arg6 harg6 x6 _ _ _ _ [] | exact read_it _ _ arg6 harg6 x6 _ _ _ _ _) (by first | exact read_st _ _ arg7 harg7 x7 _ _ [] | exact read_st _ _ arg7 harg7 x7 _ _ _)))
      (load_full arg14 harg14 xp _) (load_full arg14 harg14 xp _) (load_full arg14 harg14 xp _) (load_full arg14 harg14 xp _) (load_full arg15 harg15 xs _) (load_full arg15 harg15 xs _) (load_full arg15 harg15 xs _) (load_full arg15 harg15 xs _)
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _; isplitr; swap; · iexact H20
    ipureintro
    exact (read_dense0 _ _ (expands_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (expands_t8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ (by rfl) _ _ _ _ (by decide +kernel)) (by decide +kernel) (by decide +kernel) _ _ _ (harg8.read_unread _) (by first | exact read_it _ _ arg9 harg9 x9 _ _ _ _ [] | exact read_it _ _ arg9 harg9 x9 _ _ _ _ _) (by first | exact read_st _ _ arg10 harg10 x10 _ _ [] | exact read_st _ _ arg10 harg10 x10 _ _ _))
  · iexists _, _; isplitr; swap; · iexact H21
    ipureintro; rfl

end Cert.KernelIdeal.Hand
-- ==== Proof.FrameK.lean ====
module

public import proofs.«01_k».proof.Proof.RunA
public import proofs.«01_k».proof.Proof.RunB
public import Idealize.ShloMosaic.Lib.Claim

@[expose] public section

/-!
# The run of the kernel, its outputs named

The proof data: what each output window holds after each point, and what the carried scratch (the gathered codes, the
scales along lanes, the next dense chunk) holds between points; the body obligation from the two cases' runs; the launch.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of number `n`. -/
def pt (n : Nat) : Fin cfg0.N := ⟨n % 36, lt_of_lt_of_eq (Nat.mod_lt _ (by decide)) N_0.symm⟩

/-- A point is the point of its number. -/
theorem pt_val (t : Fin cfg0.N) : pt t.val = t := Fin.ext (Nat.mod_eq_of_lt (lt_of_lt_of_eq t.isLt N_0))

/-- The activations. -/
def actv (c : Dev nD) : Vec F S256x7168 .bf16 := iblk m c 0 (pt 0)

/-- The dense chunk the point `n` takes first: at the first point the chunk 0, later the chunk `2 n` the point before expanded. -/
def chunkA (c : Dev nD) (n : Nat) : Vec F S3584x2x256 .bf16 :=
  if n = 0 then denseOf (iblk m c 1 (pt 0)) (iblk m c 2 (pt 0)) (iblk m c 3 (pt 0))
  else denseOf (iblk m c 7 (pt (n - 1))) (iblk m c 8 (pt (n - 1))) (iblk m c 9 (pt (n - 1)))

/-- The dense chunk the point `t` takes second. -/
def chunkB (c : Dev nD) (t : Fin cfg0.N) : Vec F S3584x2x256 .bf16 :=
  denseOf (iblk m c 4 t) (iblk m c 5 t) (iblk m c 6 t)

/-- The block of the product the point `t` leaves. -/
def yBlock (c : Dev nD) (t : Fin cfg0.N) : Vec F S256x512 .bf16 :=
  yOf (xpOf (actv m c)) (xsOf (actv m c)) (chunkA m c t.val) (chunkB m c t)

/-- The scratch between points: before the first at any contents; before the point `n + 1` the gathered codes, the scales and the next dense chunk. -/
def PhiT (c : Dev nD) (n : Nat) : sProp 𝕄 :=
  if n = 0 then Pipeline.ΦA spec0 c
  else iprop((owns (c : Thread nD τ) scM0_0 fullShare (xpOf (actv m c)) ∗ owns (c : Thread nD τ) scM0_1 fullShare (xsOf (actv m c))
      ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)
      ∗ owns (c : Thread nD τ) scM0_6 fullShare (chunkA m c n) ∗ (∃ d, owns (c : Thread nD τ) scM0_7 fullShare d)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yBlock m c t
    | ⟨11, _⟩ => codesOf (actv m c)
    | ⟨12, _⟩ => scaleOf (actv m c)
  Φ t := PhiT m c t.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = yBlock m c t := by dsimp only [dats]
/-- What the body leaves in window 11. -/
theorem after0_11 (c : Dev nD) (t : Fin cfg0.N) : (dats m 0 c).after 11 t = codesOf (actv m c) := by dsimp only [dats]
/-- What the body leaves in window 12. -/
theorem after0_12 (c : Dev nD) (t : Fin cfg0.N) : (dats m 0 c).after 12 t = scaleOf (actv m c) := by dsimp only [dats]
/-- Window 0 holds its block at every point. -/
theorem before0_0 (c : Dev nD) (t : Fin cfg0.N) (d) : (dats m 0 c).before 0 t d = iblk m c 0 t :=
  before0_0_of m (dats m 0 c) (A_eq m c 0) (after0_0 m c) t d
/-- Window 1 holds its block at every point. -/
theorem before0_1 (c : Dev nD) (t : Fin cfg0.N) (d) : (dats m 0 c).before 1 t d = iblk m c 1 t :=
  before0_1_of m (dats m 0 c) (A_eq m c 1) (after0_1 m c) t d
/-- Window 2 holds its block at every point. -/
theorem before0_2 (c : Dev nD) (t : Fin cfg0.N) (d) : (dats m 0 c).before 2 t d = iblk m c 2 t :=
  before0_2_of m (dats m 0 c) (A_eq m c 2) (after0_2 m c) t d
/-- Window 3 holds its block at every point. -/
theorem before0_3 (c : Dev nD) (t : Fin cfg0.N) (d) : (dats m 0 c).before 3 t d = iblk m c 3 t :=
  before0_3_of m (dats m 0 c) (A_eq m c 3) (after0_3 m c) t d
/-- Window 4 holds its block at every point. -/
theorem before0_4 (c : Dev nD) (t : Fin cfg0.N) (d) : (dats m 0 c).before 4 t d = iblk m c 4 t :=
  before0_4_of m (dats m 0 c) (A_eq m c 4) (after0_4 m c) t d
/-- Window 5 holds its block at every point. -/
theorem before0_5 (c : Dev nD) (t : Fin cfg0.N) (d) : (dats m 0 c).before 5 t d = iblk m c 5 t :=
  before0_5_of m (dats m 0 c) (A_eq m c 5) (after0_5 m c) t d
/-- Window 6 holds its block at every point. -/
theorem before0_6 (c : Dev nD) (t : Fin cfg0.N) (d) : (dats m 0 c).before 6 t d = iblk m c 6 t :=
  before0_6_of m (dats m 0 c) (A_eq m c 6) (after0_6 m c) t d
/-- Window 7 holds its block at every point. -/
theorem before0_7 (c : Dev nD) (t : Fin cfg0.N) (d) : (dats m 0 c).before 7 t d = iblk m c 7 t :=
  before0_7_of m (dats m 0 c) (A_eq m c 7) (after0_7 m c) t d
/-- Window 8 holds its block at every point. -/
theorem before0_8 (c : Dev nD) (t : Fin cfg0.N) (d) : (dats m 0 c).before 8 t d = iblk m c 8 t :=
  before0_8_of m (dats m 0 c) (A_eq m c 8) (after0_8 m c) t d
/-- Window 9 holds its block at every point. -/
theorem before0_9 (c : Dev nD) (t : Fin cfg0.N) (d) : (dats m 0 c).before 9 t d = iblk m c 9 t :=
  before0_9_of m (dats m 0 c) (A_eq m c 9) (after0_9 m c) t d

/-- Window 11 is idle after the first point. -/
theorem idle0_11 (t : Fin cfg0.N) (h : t.val ≠ 0) : cfg0.idle 11 (cfg0.grid.coords t) = true := by
  have hN : t.val < 36 := lt_of_lt_of_eq t.isLt N_0
  have hc : ¬ cond0_0 (grid0.coords t) := fun hc => h (by have := (hcond0_0 t).mp hc; omega)
  show (!(k0_cond1 (grid0.coords t) == 1#1)) = true
  simpa using hc

/-- Window 11 is not idle at the first point. -/
theorem live0_11 (t : Fin cfg0.N) (h : t.val = 0) : cfg0.idle 11 (cfg0.grid.coords t) = false := by
  have hc : cond0_0 (grid0.coords t) := (hcond0_0 t).mpr (by omega)
  show (!(k0_cond1 (grid0.coords t) == 1#1)) = false
  simpa using hc

/-- After the first point window 11 holds what the first point left. -/
theorem before0_11 (c : Dev nD) : ∀ (n : Nat) (h : n + 1 < cfg0.N) (d), (dats m 0 c).before 11 ⟨n + 1, h⟩ d = codesOf (actv m c)
  | 0, h, d => by
    have hf : (cfg0.win 11).flush ⟨0, Nat.lt_of_succ_lt h⟩ = false := by
      rw [Bool.eq_false_iff]
      exact fun e => absurd ((flush0_11 _).mp e) (by show ¬ 0 % 36 = 35; decide)
    rw [(dats m 0 c).before_of_pos 11 ⟨0 + 1, h⟩ (by simp) rfl]
    show (if (cfg0.win 11).flush ⟨0, _⟩ then d else (dats m 0 c).left 11 ⟨0, _⟩ d) = _
    rw [hf, if_neg Bool.false_ne_true]
    unfold Dat.left
    rw [live0_11 ⟨0, Nat.lt_of_succ_lt h⟩ rfl]
    exact after0_11 m c _
  | n + 1, h, d => by
    have hN : n + 1 + 1 < 36 := lt_of_lt_of_eq h N_0
    have hf : (cfg0.win 11).flush ⟨n + 1, Nat.lt_of_succ_lt h⟩ = false := by
      rw [Bool.eq_false_iff]
      exact fun e => absurd ((flush0_11 _).mp e) (by show ¬ (n + 1) % 36 = 35; omega)
    rw [(dats m 0 c).before_of_pos 11 ⟨n + 1 + 1, h⟩ (by simp) rfl]
    show (if (cfg0.win 11).flush ⟨n + 1, _⟩ then d else (dats m 0 c).left 11 ⟨n + 1, _⟩ d) = _
    rw [hf, if_neg Bool.false_ne_true]
    unfold Dat.left
    rw [idle0_11 ⟨n + 1, Nat.lt_of_succ_lt h⟩ (by simp)]
    exact before0_11 c n (Nat.lt_of_succ_lt h) d

/-- What the first point's contents give back for window 11. -/
theorem leaves0_11 (c : Dev nD) (t : Fin cfg0.N) :
    (owns (c : Thread nD τ) (ms0_11 t) fullShare (codesOf (actv m c)) : sProp 𝕄) ⊢ (dats m 0 c).leavesExact 11 t := by
  obtain ⟨n, hn⟩ := t
  cases n with
  | zero =>
    unfold Dat.leavesExact
    rw [live0_11 ⟨0, hn⟩ rfl]
    exact .rfl
  | succ n =>
    unfold Dat.leavesExact
    rw [idle0_11 ⟨n + 1, hn⟩ (by simp)]
    cases (cfg0.win 11).flush ⟨n + 1, hn⟩ with
    | true => exact .rfl
    | false =>
      show _ ⊢ iprop(∃ d, owns (c : Thread nD τ) (ms0_11 ⟨n + 1, hn⟩) fullShare ((dats m 0 c).before 11 ⟨n + 1, hn⟩ d))
      iintro H
      iexists (codesOf (actv m c))
      rw [before0_11 m c n hn]
      iexact H

/-- Window 12 is idle after the first point. -/
theorem idle0_12 (t : Fin cfg0.N) (h : t.val ≠ 0) : cfg0.idle 12 (cfg0.grid.coords t) = true := by
  have hN : t.val < 36 := lt_of_lt_of_eq t.isLt N_0
  have hc : ¬ cond0_0 (grid0.coords t) := fun hc => h (by have := (hcond0_0 t).mp hc; omega)
  show (!(k0_cond1 (grid0.coords t) == 1#1)) = true
  simpa using hc

/-- Window 12 is not idle at the first point. -/
theorem live0_12 (t : Fin cfg0.N) (h : t.val = 0) : cfg0.idle 12 (cfg0.grid.coords t) = false := by
  have hc : cond0_0 (grid0.coords t) := (hcond0_0 t).mpr (by omega)
  show (!(k0_cond1 (grid0.coords t) == 1#1)) = false
  simpa using hc

/-- After the first point window 12 holds what the first point left. -/
theorem before0_12 (c : Dev nD) : ∀ (n : Nat) (h : n + 1 < cfg0.N) (d), (dats m 0 c).before 12 ⟨n + 1, h⟩ d = scaleOf (actv m c)
  | 0, h, d => by
    have hf : (cfg0.win 12).flush ⟨0, Nat.lt_of_succ_lt h⟩ = false := by
      rw [Bool.eq_false_iff]
      exact fun e => absurd ((flush0_12 _).mp e) (by show ¬ 0 % 36 = 35; decide)
    rw [(dats m 0 c).before_of_pos 12 ⟨0 + 1, h⟩ (by simp) rfl]
    show (if (cfg0.win 12).flush ⟨0, _⟩ then d else (dats m 0 c).left 12 ⟨0, _⟩ d) = _
    rw [hf, if_neg Bool.false_ne_true]
    unfold Dat.left
    rw [live0_12 ⟨0, Nat.lt_of_succ_lt h⟩ rfl]
    exact after0_12 m c _
  | n + 1, h, d => by
    have hN : n + 1 + 1 < 36 := lt_of_lt_of_eq h N_0
    have hf : (cfg0.win 12).flush ⟨n + 1, Nat.lt_of_succ_lt h⟩ = false := by
      rw [Bool.eq_false_iff]
      exact fun e => absurd ((flush0_12 _).mp e) (by show ¬ (n + 1) % 36 = 35; omega)
    rw [(dats m 0 c).before_of_pos 12 ⟨n + 1 + 1, h⟩ (by simp) rfl]
    show (if (cfg0.win 12).flush ⟨n + 1, _⟩ then d else (dats m 0 c).left 12 ⟨n + 1, _⟩ d) = _
    rw [hf, if_neg Bool.false_ne_true]
    unfold Dat.left
    rw [idle0_12 ⟨n + 1, Nat.lt_of_succ_lt h⟩ (by simp)]
    exact before0_12 c n (Nat.lt_of_succ_lt h) d

/-- What the first point's contents give back for window 12. -/
theorem leaves0_12 (c : Dev nD) (t : Fin cfg0.N) :
    (owns (c : Thread nD τ) (ms0_12 t) fullShare (scaleOf (actv m c)) : sProp 𝕄) ⊢ (dats m 0 c).leavesExact 12 t := by
  obtain ⟨n, hn⟩ := t
  cases n with
  | zero =>
    unfold Dat.leavesExact
    rw [live0_12 ⟨0, hn⟩ rfl]
    exact .rfl
  | succ n =>
    unfold Dat.leavesExact
    rw [idle0_12 ⟨n + 1, hn⟩ (by simp)]
    cases (cfg0.win 12).flush ⟨n + 1, hn⟩ with
    | true => exact .rfl
    | false =>
      show _ ⊢ iprop(∃ d, owns (c : Thread nD τ) (ms0_12 ⟨n + 1, hn⟩) fullShare ((dats m 0 c).before 12 ⟨n + 1, hn⟩ d))
      iintro H
      iexists (scaleOf (actv m c))
      rw [before0_12 m c n hn]
      iexact H

/-- Window 10 is never idle. -/
theorem liveAt0_10 : ∀ t : Fin cfg0.N, cfg0.idle 10 (grid0.coords t) = false := fun _ => rfl

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at the first point. -/
theorem sound_A (c : Dev nD) (t : Fin cfg0.N) (h0 : t.val % 36 = 0) :
    bodyPre m c t ⊢ wp frame (wpE (defs₀ (F := F)) Variants.none c none) Set.univ (bodyAt0 t) (fun _ => bodyPost m c t) := by
    have hN : t.val < 36 := lt_of_lt_of_eq t.isLt (show cfg0.N = 36 from N_0)
    have ht : t = pt 0 := Fin.ext (by show t.val = 0 % 36; omega)
    have hy : yOf (xpOf (actv m c)) (xsOf (actv m c)) (denseOf (iblk m c 1 t) (iblk m c 2 t) (iblk m c 3 t)) (denseOf (iblk m c 4 t) (iblk m c 5 t) (iblk m c 6 t)) = yBlock m c t := by
      subst ht
      unfold yBlock chunkA chunkB
      rw [if_pos (show (pt 0).val = 0 from rfl)]
    have hx : (iblk m c 0 t : Vec F S256x7168 .bf16) = actv m c := by rw [ht]; rfl
    have hd : denseOf (iblk m c 7 t) (iblk m c 8 t) (iblk m c 9 t) = chunkA m c (t.val + 1) := by
      unfold chunkA
      rw [if_neg (Nat.succ_ne_zero _), show pt (t.val + 1 - 1) = t from pt_val t]
    unfold bodyPre bodyPost bodyAt0
    simp only [before0_0, before0_1, before0_2, before0_3, before0_4, before0_5, before0_6, before0_7, before0_8, before0_9]
    rw [show (dats m 0 c).owesAt () t.succ = (dats m 0 c).owesAt () t.castSucc from rfl]
    rw [show (dats m 0 c).Φ t.castSucc = Pipeline.ΦA spec0 c from if_pos (show t.val = 0 by omega), PhiA0_eq]
    rw [show (dats m 0 c).Φ t.succ = PhiT m c (t.val + 1) from rfl]
    unfold PhiT
    rw [if_neg (Nat.succ_ne_zero _), ← hd]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [hx, ← hy]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_A c (grid0.coords t) _ _ _ _ _ _ _ _ _ _ _ _ _ _ _ _ _ _ _ _ _ _ _ _ _ _ _ _ _ _ _ _ _ _ _ _ _ _ _ _ _ _ ((hcond0_0 t).mpr h0) (actv m c) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11 m c t); iexact H11
    iapply (leaves0_12 m c t); iexact H12

set_option maxHeartbeats 4000000 in
/-- The body at a later point. -/
theorem sound_B (c : Dev nD) (t : Fin cfg0.N) (h0 : ¬ t.val % 36 = 0) :
    bodyPre m c t ⊢ wp frame (wpE (defs₀ (F := F)) Variants.none c none) Set.univ (bodyAt0 t) (fun _ => bodyPost m c t) := by
    have hN : t.val < 36 := lt_of_lt_of_eq t.isLt (show cfg0.N = 36 from N_0)
    have hd : denseOf (iblk m c 7 t) (iblk m c 8 t) (iblk m c 9 t) = chunkA m c (t.val + 1) := by
      show _ = if t.val + 1 = 0 then _ else _
      rw [if_neg (Nat.succ_ne_zero _), show pt (t.val + 1 - 1) = t from pt_val t]
    have h11 : ∀ d, (dats m 0 c).before 11 t d = codesOf (actv m c) := by
      obtain ⟨n, hn⟩ := t
      cases n with
      | zero => exact absurd rfl h0
      | succ n => exact before0_11 m c n hn
    have h12 : ∀ d, (dats m 0 c).before 12 t d = scaleOf (actv m c) := by
      obtain ⟨n, hn⟩ := t
      cases n with
      | zero => exact absurd rfl h0
      | succ n => exact before0_12 m c n hn
    unfold bodyPre bodyPost bodyAt0
    simp only [before0_0, before0_1, before0_2, before0_3, before0_4, before0_5, before0_6, before0_7, before0_8, before0_9, h11, h12]
    rw [show (dats m 0 c).owesAt () t.succ = (dats m 0 c).owesAt () t.castSucc from rfl]
    rw [show (dats m 0 c).Φ t.castSucc = PhiT m c t.val from rfl, show (dats m 0 c).Φ t.succ = PhiT m c (t.val + 1) from rfl]
    unfold PhiT
    rw [if_neg (Nat.succ_ne_zero _), if_neg (show ¬ t.val = 0 by omega), ← hd]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (codesOf (actv m c)) (scaleOf (actv m c)) (xpOf (actv m c)) (xsOf (actv m c)) (chunkA m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11 m c t); iexact H11
    iapply (leaves0_12 m c t); iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  have h : bodyPre m c t ⊢ wp frame (wpE (defs₀ (F := F)) Variants.none c none) Set.univ (bodyAt0 t) (fun _ => bodyPost m c t) := by
    by_cases h0 : t.val % 36 = 0
    · exact sound_A m c t h0
    · exact sound_B m c t h0
  exact triple_restated h rfl .rfl fun _ => .rfl

/-- What is tracked between points is forgotten at the end. -/
theorem PhiT_forget (c : Dev nD) (n : Nat) (h : n ≠ 0) : PhiT m c n ⊢ (Pipeline.ΦA spec0 c : sProp 𝕄) := by
  unfold PhiT
  rw [if_neg h, PhiA0_eq]
  iintro ⟨⟨HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    isplitl [HS6]; · iexists _; iexact HS6
    iexact HS7
  iexact Hg

set_option backward.isDefEq.respectTransparency.types false in
/-- The launch: every execution ends, the arrays at what the proof data say, the counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl) (hout := fun c => by
      show PhiT m c cfg0.N ⊢ _
      exact PhiT_forget m c cfg0.N (by have h : cfg0.N = 36 := N_0; rw [h]; decide))

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand
-- ==== Proof.RefFinal.lean ====
module

public import proofs.«01_k».proof.Proof.Gen.ReferenceIdeal.Run
public import Idealize.ShloMosaic.Lib.Pointwise
public import Idealize.ShloMosaic.Lib.Pipeline.ValueKit

@[expose] public section

/-!
# What the reference's quantising call leaves

Its four result arrays, in terms of the argument arrays.
-/

set_option maxRecDepth 16384

noncomputable section

namespace Cert.ReferenceIdeal.Hand

open Idealize.ShloMosaic Idealize.ShloMosaic.TcCoe Idealize.ShloMosaic.Tactic
open Idealize.SL.Sem
open Cert.ReferenceIdeal Cert.ReferenceIdeal.Gen

variable {F : FTy → Type} [FloatOps F]
variable (m : (ℓ : Loc nD τ sig) → Buf (Elt F) ℓ)

/-- The flattened activations. -/
def xArr (c : Dev nD) : Vec F S256x7168 .bf16 := shapeCast S256x7168 (m ((c : Thread nD τ).loc main_arg0)) shapeCasts_S2x128x7168_S256x7168

theorem index_all : ∀ t : Fin cfg0.N, win0_0.index t = ![0, 0] ∧ win0_1.index t = ![0, 0] :=
  (by decide +kernel : ∀ t : Fin grid0.N, _)

theorem iblk0 (c : Dev nD) (t : Fin cfg0.N) : iblk m c 0 t = xArr m c := by
  obtain ⟨h0, -⟩ := index_all t
  blk_ext! [iblk, V, h0, xArr]

theorem iblk1 (c : Dev nD) (t : Fin cfg0.N) : iblk m c 1 t = m ((c : Thread nD τ).loc main_arg1) := by
  obtain ⟨-, h1⟩ := index_all t
  blk_ext! [iblk, V, h1]

theorem reg_codes (c : Dev nD) : Value.reg_main_v1_0 m c = k0_pay4 (xArr m c) := by
  unfold Value.reg_main_v1_0
  refine (dats m 0 c).arrAt_eq_of_after_last 2 t0_0 (by decide +kernel) _ fun j => ?_
  blk_simp
  rw [after0_2, iblk0]
  unfold out0_2
  frame_out

theorem reg_scale (c : Dev nD) : Value.reg_main_v1_1 m c = k0_pay3 (xArr m c) := by
  unfold Value.reg_main_v1_1
  refine (dats m 0 c).arrAt_eq_of_after_last 3 t0_0 (by decide +kernel) _ fun j => ?_
  blk_simp
  rw [after0_3, iblk0]
  unfold out0_3
  frame_out

theorem reg_xb (c : Dev nD) : Value.reg_main_v1_2 m c = k0_pay5 (xArr m c) := by
  unfold Value.reg_main_v1_2
  refine (dats m 0 c).arrAt_eq_of_after_last 4 t0_0 (by decide +kernel) _ fun j => ?_
  blk_simp
  rw [after0_4, iblk0]
  unfold out0_4
  frame_out

theorem reg_wb (c : Dev nD) : Value.reg_main_v1_3 m c = k0_pay1 (m ((c : Thread nD τ).loc main_arg1)) := by
  unfold Value.reg_main_v1_3
  refine (dats m 0 c).arrAt_eq_of_after_last 5 t0_0 (by decide +kernel) _ fun j => ?_
  blk_simp
  rw [after0_5, iblk1]
  unfold out0_5
  frame_out

end Cert.ReferenceIdeal.Hand
-- ==== Proof.Final.lean ====
module

public import proofs.«01_k».proof.Proof.FrameK
public import Idealize.ShloMosaic.Lib.Pointwise
public import Idealize.ShloMosaic.Lib.Pipeline.ValueKit

@[expose] public section

/-!
# The arrays the run leaves

Each window's blocks as elements of the argument arrays, and the three result arrays the run leaves in terms of them.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' block indices, point by point. -/
theorem index_all : ∀ t : Fin cfg0.N, win0_0.index t = ![0, 0] ∧ win0_1.index t = ![0, 0] ∧ win0_2.index t = ![0, 0] ∧ win0_3.index t = ![0, 0]
    ∧ win0_4.index t = ![2 * t.val + 1, 0] ∧ win0_5.index t = ![2 * t.val + 1, 0] ∧ win0_6.index t = ![2 * t.val + 1, 0]
    ∧ win0_7.index t = ![min (2 * t.val + 2) 71, 0] ∧ win0_8.index t = ![min (2 * t.val + 2) 71, 0] ∧ win0_9.index t = ![min (2 * t.val + 2) 71, 0]
    ∧ win0_10.index t = ![0, t.val] ∧ win0_11.index t = ![0, 0] ∧ win0_12.index t = ![0, 0] :=
  (by decide +kernel : ∀ t : Fin grid0.N, _)

theorem lt36 (t : Fin cfg0.N) : t.val < 36 := lt_of_lt_of_eq t.isLt N_0

/-- The activations as the region finds them: the flattened argument. -/
def xArr (c : Dev nD) : Vec F S256x7168 .bf16 := shapeCast S256x7168 (m ((c : Thread nD τ).loc main_arg0)) shapeCasts_S2x128x7168_S256x7168

theorem iblk0 (c : Dev nD) (t : Fin cfg0.N) : iblk m c 0 t = xArr m c := by
  obtain ⟨h0, -⟩ := index_all t
  blk_ext! [iblk, V, h0, xArr]

theorem iblk1 (c : Dev nD) (t : Fin cfg0.N) (r : Fin 256) (k : Fin 3584) :
    iblk m c 1 t (ix2 r k) = m ((c : Thread nD τ).loc main_arg1) (ix2 ⟨r.val, by omega⟩ k) := by
  obtain ⟨-, h, -⟩ := index_all t
  blk_ext [iblk, V, h]

theorem iblk2 (c : Dev nD) (t : Fin cfg0.N) (r : Fin 256) (k : Fin 224) :
    iblk m c 2 t (ix2 r k) = m ((c : Thread nD τ).loc main_arg2) (ix2 ⟨r.val, by omega⟩ k) := by
  obtain ⟨-, -, h, -⟩ := index_all t
  blk_ext [iblk, V, h]

theorem iblk3 (c : Dev nD) (t : Fin cfg0.N) (r : Fin 256) (k : Fin 56) :
    iblk m c 3 t (ix2 r k) = m ((c : Thread nD τ).loc main_arg3) (ix2 ⟨r.val, by omega⟩ k) := by
  obtain ⟨-, -, -, h, -⟩ := index_all t
  blk_ext [iblk, V, h]

theorem iblk4 (c : Dev nD) (t : Fin cfg0.N) (r : Fin 256) (k : Fin 3584) :
    iblk m c 4 t (ix2 r k) = m ((c : Thread nD τ).loc main_arg1) (ix2 ⟨(2 * t.val + 1) * 256 + r.val, by have := lt36 t; omega⟩ k) := by
  obtain ⟨-, -, -, -, h, -⟩ := index_all t
  blk_ext [iblk, V, h]

theorem iblk5 (c : Dev nD) (t : Fin cfg0.N) (r : Fin 256) (k : Fin 224) :
    iblk m c 5 t (ix2 r k) = m ((c : Thread nD τ).loc main_arg2) (ix2 ⟨(2 * t.val + 1) * 256 + r.val, by have := lt36 t; omega⟩ k) := by
  obtain ⟨-, -, -, -, -, h, -⟩ := index_all t
  blk_ext [iblk, V, h]

theorem iblk6 (c : Dev nD) (t : Fin cfg0.N) (r : Fin 256) (k : Fin 56) :
    iblk m c 6 t (ix2 r k) = m ((c : Thread nD τ).loc main_arg3) (ix2 ⟨(2 * t.val + 1) * 256 + r.val, by have := lt36 t; omega⟩ k) := by
  obtain ⟨-, -, -, -, -, -, h, -⟩ := index_all t
  blk_ext [iblk, V, h]

theorem iblk7 (c : Dev nD) (t : Fin cfg0.N) (r : Fin 256) (k : Fin 3584) :
    iblk m c 7 t (ix2 r k) = m ((c : Thread nD τ).loc main_arg1) (ix2 ⟨min (2 * t.val + 2) 71 * 256 + r.val, by have := lt36 t; omega⟩ k) := by
  obtain ⟨-, -, -, -, -, -, -, h, -⟩ := index_all t
  blk_ext [iblk, V, h]

theorem iblk8 (c : Dev nD) (t : Fin cfg0.N) (r : Fin 256) (k : Fin 224) :
    iblk m c 8 t (ix2 r k) = m ((c : Thread nD τ).loc main_arg2) (ix2 ⟨min (2 * t.val + 2) 71 * 256 + r.val, by have := lt36 t; omega⟩ k) := by
  obtain ⟨-, -, -, -, -, -, -, -, h, -⟩ := index_all t
  blk_ext [iblk, V, h]

theorem iblk9 (c : Dev nD) (t : Fin cfg0.N) (r : Fin 256) (k : Fin 56) :
    iblk m c 9 t (ix2 r k) = m ((c : Thread nD τ).loc main_arg3) (ix2 ⟨min (2 * t.val + 2) 71 * 256 + r.val, by have := lt36 t; omega⟩ k) := by
  obtain ⟨-, -, -, -, -, -, -, -, -, h, -⟩ := index_all t
  blk_ext [iblk, V, h]

/-- The codes the run leaves. -/
theorem final_codes (c : Dev nD) : (dats m 0 c).arrAt 11 cfg0.N = codesOf (xArr m c) := by
  refine (dats m 0 c).arrAt_eq_of_after_last 11 (pt 35) (by decide +kernel) _ fun j => ?_
  show (dats m 0 c).after 11 (pt 35) _ = _
  rw [after0_11]
  unfold actv
  rw [iblk0]
  rfl

/-- The scales the run leaves. -/
theorem final_scale (c : Dev nD) : (dats m 0 c).arrAt 12 cfg0.N = scaleOf (xArr m c) := by
  refine (dats m 0 c).arrAt_eq_of_after_last 12 (pt 35) (by decide +kernel) _ fun j => ?_
  show (dats m 0 c).after 12 (pt 35) _ = _
  rw [after0_12]
  unfold actv
  rw [iblk0]
  rfl

/-- The product the run leaves, as an array: column `n` is column `n % 512` of the block of the point `n / 512`. -/
def yArr (c : Dev nD) : Vec F S256x18432 .bf16 :=
  fun j => yBlock m c (pt ((j 1).val / 512)) (ix2 (j 0) ⟨(j 1).val % 512, Nat.mod_lt _ (by decide)⟩)

theorem yArr_at (c : Dev nD) (t : Fin cfg0.N) (y : S256x512.Idx) (i : S256x18432.Idx) (h0 : (i 0).val = (y 0).val)
    (h1 : (i 1).val = t.val * 512 + (y 1).val) : yArr m c i = yBlock m c t y := by
  have hy1 : (y 1).val < 512 := (y 1).isLt
  have ht : pt ((i 1).val / 512) = t := by
    have := lt36 t
    have e : (i 1).val / 512 = t.val := by omega
    rw [e, pt_val]
  have hy : (ix2 (i 0) ⟨(i 1).val % 512, Nat.mod_lt _ (by decide)⟩ : S256x512.Idx) = y := by
    idx_vars y
    refine congr (congrArg ix2 (Fin.ext h0)) (Fin.ext ?_)
    show (i 1).val % 512 = y1.val
    have h1' : (i 1).val = t.val * 512 + y1.val := h1
    omega
  unfold yArr
  rw [ht, hy]

theorem final_y (c : Dev nD) : (dats m 0 c).arrAt 10 cfg0.N = yArr m c := by
  refine (dats m 0 c).arrAt_eq_of_covers 10 _ (by decide +kernel) fun t hf y => ?_
  obtain ⟨-, -, -, -, -, -, -, -, -, -, h, -⟩ := index_all t
  have e0 : ((((cfg0.win 10).blk t).view.emb y) 0 : ℕ) = (y 0).val := by blk_simp [h]
  have e1 : ((((cfg0.win 10).blk t).view.emb y) 1 : ℕ) = t.val * 512 + (y 1).val := by blk_simp [h]
  show (dats m 0 c).after 10 t _ = _
  rw [after0_10]
  exact (yArr_at m c t _ _ e0 e1).symm

end Cert.KernelIdeal.Hand
-- ==== Proof.Bits.lean ====
module

public import proofs.«01_k».proof.Proof.Vals
public import Idealize.ShloMosaic.Lib.Pointwise

@[expose] public section

/-!
# The bits of a word of column indices

The bits the expansion tests, as conditions on a group's two column indices.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A two-bit field of a word. -/
def field (w : BitVec 32) (k : Nat) : BitVec 32 := (w.sshiftRight k) &&& 3#32

/-- A two-bit field by its two bits. -/
theorem field_eq (w : BitVec 32) (k : Nat) (hk : k ≤ 30) :
    field w k = bif w.getLsbD (k + 1) then (bif w.getLsbD k then 3#32 else 2#32) else (bif w.getLsbD k then 1#32 else 0#32) := by
  apply BitVec.eq_of_getLsbD_eq
  intro j hj
  unfold field
  rw [BitVec.getLsbD_and, BitVec.getLsbD_sshiftRight]
  match j with
  | 0 => cases h1 : w.getLsbD (k + 1) <;> cases h0 : w.getLsbD k <;> simp [h0, h1] <;> omega
  | 1 => cases h1 : w.getLsbD (k + 1) <;> cases h0 : w.getLsbD k <;> simp [h0, h1] <;> omega
  | j + 2 =>
    have h3 : (3#32).getLsbD (j + 2) = false := by
      rw [show (3#32) = BitVec.ofNat 32 3 from rfl, BitVec.getLsbD_ofNat]
      have : Nat.testBit 3 (j + 2) = false := Nat.testBit_lt_two_pow (Nat.lt_of_lt_of_le (by norm_num : 3 < 2 ^ 2) (Nat.pow_le_pow_right (by norm_num) (by omega)))
      rw [this, Bool.and_false]
    rw [h3, Bool.and_false]
    have hx : ∀ n, n < 4 → (BitVec.ofNat 32 n).getLsbD (j + 2) = false := by
      intro n hn
      rw [BitVec.getLsbD_ofNat]
      have : Nat.testBit n (j + 2) = false := Nat.testBit_lt_two_pow (Nat.lt_of_lt_of_le (by omega : n < 2 ^ 2) (Nat.pow_le_pow_right (by norm_num) (by omega)))
      rw [this, Bool.and_false]
    cases w.getLsbD (k + 1) <;> cases w.getLsbD k <;> exact (hx _ (by norm_num)).symm

/-- The three bits of a group in the word the expansion reads. -/
theorem itE_bits (w : BitVec 32) (i : Fin 8) : (itE w).getLsbD (4 * i.val) = (w.getLsbD (4 * i.val + 1) ^^ w.getLsbD (4 * i.val + 3))
    ∧ (itE w).getLsbD (4 * i.val + 1) = (!w.getLsbD (4 * i.val + 1) && !w.getLsbD (4 * i.val))
    ∧ (itE w).getLsbD (4 * i.val + 3) = (w.getLsbD (4 * i.val + 3) && w.getLsbD (4 * i.val + 2)) := by
  fin_cases i <;> simp [itE, IntOp.ori, IntOp.andi, IntOp.xori, IntOp.shli, IntOp.shrui, BitVec.getLsbD_or, BitVec.getLsbD_and, BitVec.getLsbD_xor,
    BitVec.getLsbD_shiftLeft, BitVec.getLsbD_ushiftRight, Bool.and_comm]

/-- Kept value 0 of a group is in the first half where its column is 0. -/
theorem firstBit_even (v : BitVec 32) (i : Fin 8) : firstBit v (2 * i.val) = BitVec.ofBool (v.getLsbD (4 * i.val + 1)) := by
  unfold firstBit IntOp.cmpi IntOp.shrsi IntOp.shli
  congr 1
  show (BitVec.slt _ 0#16) = _
  rw [BitVec.slt_zero_eq_msb, BitVec.msb_eq_getLsbD_last, BitVec.getLsbD_extractLsb']
  fin_cases i <;> simp [BitVec.getElem_sshiftRight, BitVec.getElem_shiftLeft]

/-- Kept value 1 of a group is in the first half where its column is 3. -/
theorem firstBit_odd (v : BitVec 32) (i : Fin 8) : firstBit v (2 * i.val + 1) = BitVec.ofBool (v.getLsbD (4 * i.val + 3)) := by
  unfold firstBit IntOp.cmpi IntOp.shrsi IntOp.shli
  congr 1
  show (BitVec.slt _ 0#16) = _
  rw [BitVec.slt_zero_eq_msb, BitVec.msb_eq_getLsbD_last, BitVec.getLsbD_extractLsb']
  fin_cases i <;> simp [BitVec.getElem_sshiftRight, BitVec.getElem_shiftLeft, BitVec.msb_eq_getLsbD_last]

theorem and16 (u : BitVec 32) : (u &&& 16#32 != 0#32) = u.getLsbD 4 := by
  have h16 : (16#32) = BitVec.twoPow 32 4 := rfl
  rw [h16, BitVec.and_twoPow]
  cases u.getLsbD 4 <;> rfl

/-- The exchange bit. -/
theorem swapBit_eq (v : BitVec 32) (i : Fin 8) : swapBit v i.val = BitVec.ofBool (v.getLsbD (4 * i.val)) := by
  unfold swapBit IntOp.cmpi IntOp.shrui IntOp.shli IntOp.andi
  congr 1
  show (_ &&& 16#32 != 0#32) = _
  rw [and16]
  fin_cases i <;> simp [BitVec.getLsbD_ushiftRight, BitVec.getLsbD_shiftLeft]

/-- The weight a group puts at its column `pos`: the kept value whose index it is, or zero. -/
def pick (p0 p1 : BitVec 32) (pos : BitVec 32) (v0 v1 : EReal) : EReal :=
  Scalar.select (IntOp.cmpi CmpIPredicate.eq p0 pos) v0 (Scalar.select (IntOp.cmpi CmpIPredicate.eq p1 pos) v1 0)

/-- The word's group `i` lists its two columns in order. -/
def Ordered (w : BitVec 32) : Prop := ∀ i : Fin 8, IntOp.cmpi CmpIPredicate.slt (field w (4 * i.val)) (field w (4 * i.val + 2)) = 1#1

/-- First halves: kept value 0 where its column is 0 is the weight at column 0. -/
theorem pick_zero (w : BitVec 32) (i : Fin 8) (h : Ordered w) (v0 v1 s : EReal) :
    Scalar.select (firstBit (itE w) (2 * i.val)) (v0 * s) 0 = pick (field w (4 * i.val)) (field w (4 * i.val + 2)) 0#32 v0 v1 * s := by
  have hi := h i
  obtain ⟨-, e1, -⟩ := itE_bits w i
  rw [firstBit_even, e1]
  unfold pick
  rw [field_eq w _ (by omega), field_eq w _ (by omega)] at *
  generalize w.getLsbD (4 * i.val) = b0 at *
  generalize w.getLsbD (4 * i.val + 1) = b1 at *
  generalize w.getLsbD (4 * i.val + 2) = b2 at *
  generalize w.getLsbD (4 * i.val + 2 + 1) = b3 at *
  cases b0 <;> cases b1 <;> cases b2 <;> cases b3 <;> first | (exfalso; revert hi; decide) | simp [Scalar.select, IntOp.cmpi]

/-- First halves: kept value 1 where its column is 3 is the weight at column 3. -/
theorem pick_three (w : BitVec 32) (i : Fin 8) (h : Ordered w) (v0 v1 s : EReal) :
    Scalar.select (firstBit (itE w) (2 * i.val + 1)) (v1 * s) 0 = pick (field w (4 * i.val)) (field w (4 * i.val + 2)) 3#32 v0 v1 * s := by
  have hi := h i
  obtain ⟨-, -, e3⟩ := itE_bits w i
  rw [firstBit_odd, e3]
  unfold pick
  rw [field_eq w _ (by omega), field_eq w _ (by omega)] at *
  generalize w.getLsbD (4 * i.val) = b0 at *
  generalize w.getLsbD (4 * i.val + 1) = b1 at *
  generalize w.getLsbD (4 * i.val + 2) = b2 at *
  rw [show 4 * i.val + 2 + 1 = 4 * i.val + 3 by omega] at *
  generalize w.getLsbD (4 * i.val + 3) = b3 at *
  cases b0 <;> cases b1 <;> cases b2 <;> cases b3 <;> first | (exfalso; revert hi; decide) | simp [Scalar.select, IntOp.cmpi]

/-- Second halves: the weights at columns 2 and 1. -/
theorem pick_two (w : BitVec 32) (i : Fin 8) (h : Ordered w) (v0 v1 s : EReal) :
    Scalar.select (swapBit (itE w) i.val) (Scalar.select (firstBit (itE w) (2 * i.val + 1)) 0 (v1 * s)) (Scalar.select (firstBit (itE w) (2 * i.val)) 0 (v0 * s))
      = pick (field w (4 * i.val)) (field w (4 * i.val + 2)) 2#32 v0 v1 * s
    ∧ Scalar.select (swapBit (itE w) i.val) (Scalar.select (firstBit (itE w) (2 * i.val)) 0 (v0 * s)) (Scalar.select (firstBit (itE w) (2 * i.val + 1)) 0 (v1 * s))
      = pick (field w (4 * i.val)) (field w (4 * i.val + 2)) 1#32 v0 v1 * s := by
  have hi := h i
  obtain ⟨e0, e1, e3⟩ := itE_bits w i
  rw [firstBit_odd, firstBit_even, swapBit_eq, e0, e1, e3]
  unfold pick
  rw [field_eq w _ (by omega), field_eq w _ (by omega)] at *
  generalize w.getLsbD (4 * i.val) = b0 at *
  generalize w.getLsbD (4 * i.val + 1) = b1 at *
  generalize w.getLsbD (4 * i.val + 2) = b2 at *
  rw [show 4 * i.val + 2 + 1 = 4 * i.val + 3 by omega] at *
  generalize w.getLsbD (4 * i.val + 3) = b3 at *
  cases b0 <;> cases b1 <;> cases b2 <;> cases b3 <;> first | (exfalso; revert hi; decide) | simp [Scalar.select, IntOp.cmpi]

end Cert.KernelIdeal.Hand
-- ==== Proof.Weights.lean ====
module

public import proofs.«01_k».proof.Proof.Bits
public import Idealize.ShloMosaic.Lib.IdealHost

@[expose] public section

/-!
# The expanded weights over the extended reals

Each row of the expanded chunk is one column of one group of four, and holds the weight there.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The group of four columns a row of the expanded chunk belongs to. -/
def groupOf (k : Fin 7168) : Fin 1792 := ⟨k.val / 32 * 8 + k.val % 16 / 2, by omega⟩

/-- The column of its group a row of the expanded chunk stands for. -/
def posOf (k : Fin 7168) : Fin 4 := ⟨if k.val / 16 % 2 = 1 then 2 - k.val % 2 else 3 * (k.val % 2), by split <;> omega⟩

/-- The weight of an output row (its kept values, column indices and scales) at column `pos` of group `g`. -/
def weightE (wv : Fin 3584 → EReal) (wi : Fin 224 → BitVec 32) (ws : Fin 56 → EReal) (g : Fin 1792) (pos : Fin 4) : EReal :=
  pick (field (wi ⟨g.val / 8, by omega⟩) (4 * (g.val % 8))) (field (wi ⟨g.val / 8, by omega⟩) (4 * (g.val % 8) + 2)) (BitVec.ofNat 32 pos.val)
    (wv ⟨2 * g.val, by omega⟩) (wv ⟨2 * g.val + 1, by omega⟩) * ws ⟨g.val / 32, by omega⟩

theorem zeroB_eq : (zeroB (F := Ideal) : EReal) = 0 := by
  unfold zeroB
  exact Ideal.ofBits_zero_bf16

/-- A kept value times its scale. -/
theorem kvE_eq (wv : Vec Ideal S256x3584 .fp8e4m3) (ws : Vec Ideal S256x56 .f32) (w : Fin 224) (q : Fin 16) (n : Fin 256) :
    (kvE (F := Ideal) wv (stOf ws) w q n : EReal) = (wv (ix2 n ⟨16 * w.val + q.val, by omega⟩) : EReal) * (ws (ix2 n ⟨w.val / 4, by omega⟩) : EReal) := by
  rfl

/-- THE EXPANDED CHUNK over the extended reals. -/
theorem dense_eq (wv : Vec Ideal S256x3584 .fp8e4m3) (wi : Vec Ideal S256x224 .i32) (ws : Vec Ideal S256x56 .f32) (n : Fin 256)
    (hO : ∀ w : Fin 224, Ordered (wi (ix2 n w))) (k : Fin 7168) :
    (rowAt (denseOf (F := Ideal) wv wi ws) k n : EReal)
      = weightE (fun j => wv (ix2 n j)) (fun j => wi (ix2 n j)) (fun j => ws (ix2 n j)) (groupOf k) (posOf k) := by
  have hk := k.isLt
  obtain ⟨i, hi⟩ : ∃ i : Fin 8, i.val = k.val % 16 / 2 := ⟨⟨k.val % 16 / 2, by omega⟩, rfl⟩
  obtain ⟨w, hw⟩ : ∃ w : Fin 224, w.val = k.val / 32 := ⟨⟨k.val / 32, by omega⟩, rfl⟩
  -- the weight with the word and the group in it named
  have hW : ∀ pos : Fin 4, weightE (fun j => wv (ix2 n j)) (fun j => wi (ix2 n j)) (fun j => ws (ix2 n j)) (groupOf k) pos
      = pick (field (wi (ix2 n w)) (4 * i.val)) (field (wi (ix2 n w)) (4 * i.val + 2)) (BitVec.ofNat 32 pos.val)
          (wv (ix2 n ⟨16 * w.val + 2 * i.val, by omega⟩)) (wv (ix2 n ⟨16 * w.val + (2 * i.val + 1), by omega⟩)) * (ws (ix2 n ⟨w.val / 4, by omega⟩) : EReal) := by
    intro pos
    unfold weightE groupOf
    have e1 : (⟨(k.val / 32 * 8 + k.val % 16 / 2) / 8, by omega⟩ : Fin 224) = w := Fin.ext (by show (k.val / 32 * 8 + k.val % 16 / 2) / 8 = w.val; omega)
    have e2 : (k.val / 32 * 8 + k.val % 16 / 2) % 8 = i.val := by omega
    have e3 : (⟨2 * (k.val / 32 * 8 + k.val % 16 / 2), by omega⟩ : Fin 3584) = ⟨16 * w.val + 2 * i.val, by omega⟩ :=
      Fin.ext (by show 2 * (k.val / 32 * 8 + k.val % 16 / 2) = 16 * w.val + 2 * i.val; omega)
    have e4 : (⟨2 * (k.val / 32 * 8 + k.val % 16 / 2) + 1, by omega⟩ : Fin 3584) = ⟨16 * w.val + (2 * i.val + 1), by omega⟩ :=
      Fin.ext (by show 2 * (k.val / 32 * 8 + k.val % 16 / 2) + 1 = 16 * w.val + (2 * i.val + 1); omega)
    have e5 : (⟨(k.val / 32 * 8 + k.val % 16 / 2) / 32, by omega⟩ : Fin 56) = ⟨w.val / 4, by omega⟩ :=
      Fin.ext (by show (k.val / 32 * 8 + k.val % 16 / 2) / 32 = w.val / 4; omega)
    simp only [e1, e2, e3, e4, e5]
  rw [hW]
  have hwk : (⟨k.val / 32, by omega⟩ : Fin 224) = w := Fin.ext hw.symm
  refine (rowAt_dense wv (itOf wi) (stOf ws) k n).trans ?_
  have hit : itOf (F := Ideal) wi (ix2 w n) = itE (wi (ix2 n w)) := rfl
  unfold denseAt
  dsimp only
  rw [hwk, hit]
  have hlo : (⟨2 * (k.val % 16 / 2), by omega⟩ : Fin 16) = ⟨2 * i.val, by omega⟩ := Fin.ext (by show 2 * (k.val % 16 / 2) = 2 * i.val; omega)
  have hhi : (⟨2 * (k.val % 16 / 2) + 1, by omega⟩ : Fin 16) = ⟨2 * i.val + 1, by omega⟩ := Fin.ext (by show 2 * (k.val % 16 / 2) + 1 = 2 * i.val + 1; omega)
  rw [hlo, hhi]
  have hrest : ∀ q : Fin 16, (restE (F := Ideal) wv (itOf wi) (stOf ws) w q n : EReal)
      = Scalar.select (firstBit (itE (wi (ix2 n w))) q.val) 0 ((wv (ix2 n ⟨16 * w.val + q.val, by omega⟩) : EReal) * (ws (ix2 n ⟨w.val / 4, by omega⟩) : EReal)) := by
    intro q
    unfold restE
    rw [hit, zeroB_eq, kvE_eq]
  by_cases hb : k.val % 32 < 16
  · rw [if_pos hb]
    by_cases hp : k.val % 2 = 0
    · have hq : (⟨k.val % 16, by omega⟩ : Fin 16) = ⟨2 * i.val, by omega⟩ := Fin.ext (by show k.val % 16 = 2 * i.val; omega)
      have hpos : posOf k = 0 := Fin.ext (by show (if k.val / 16 % 2 = 1 then 2 - k.val % 2 else 3 * (k.val % 2)) = 0; rw [if_neg (by omega)]; omega)
      rw [hq, hpos, zeroB_eq, kvE_eq]
      have e : k.val % 16 = 2 * i.val := by omega
      rw [e]
      exact pick_zero _ i (hO w) _ _ _
    · have hq : (⟨k.val % 16, by omega⟩ : Fin 16) = ⟨2 * i.val + 1, by omega⟩ := Fin.ext (by show k.val % 16 = 2 * i.val + 1; omega)
      have hpos : posOf k = 3 := Fin.ext (by show (if k.val / 16 % 2 = 1 then 2 - k.val % 2 else 3 * (k.val % 2)) = 3; rw [if_neg (by omega)]; omega)
      rw [hq, hpos, zeroB_eq, kvE_eq]
      have e : k.val % 16 = 2 * i.val + 1 := by omega
      rw [e]
      exact pick_three _ i (hO w) _ _ _
  · rw [if_neg hb]
    have es : k.val % 16 / 2 = i.val := hi.symm
    rw [hrest, hrest, es]
    by_cases hp : k.val % 2 = 0
    · rw [if_pos (by omega)]
      have hpos : posOf k = 2 := Fin.ext (by show (if k.val / 16 % 2 = 1 then 2 - k.val % 2 else 3 * (k.val % 2)) = 2; rw [if_pos (by omega)]; omega)
      rw [hpos]
      exact (pick_two _ i (hO w) _ _ _).1
    · rw [if_neg (by omega)]
      have hpos : posOf k = 1 := Fin.ext (by show (if k.val / 16 % 2 = 1 then 2 - k.val % 2 else 3 * (k.val % 2)) = 1; rw [if_pos (by omega)]; omega)
      rw [hpos]
      exact (pick_two _ i (hO w) _ _ _).2

/-- The rows of the expanded chunk are the columns of the groups, each once. -/
def rowEquiv : Fin 7168 ≃ Fin 4 × Fin 1792 where
  toFun k := (posOf k, groupOf k)
  invFun p := ⟨p.2.val / 8 * 32 + 2 * (p.2.val % 8) + (if p.1.val = 0 then 0 else if p.1.val = 1 then 17 else if p.1.val = 2 then 16 else 1), by split_ifs <;> omega⟩
  left_inv k := by
    have hk := k.isLt
    refine Fin.ext ?_
    unfold posOf groupOf
    dsimp only
    split_ifs <;> omega
  right_inv p := by
    obtain ⟨a, b⟩ := p
    have ha := a.isLt
    have hb := b.isLt
    unfold posOf groupOf
    refine Prod.ext (Fin.ext ?_) (Fin.ext ?_)
    · dsimp only
      split_ifs <;> omega
    · dsimp only
      split_ifs <;> omega

/-- A sum over the rows of the expanded chunk, by column of group and group. -/
theorem sum_rows (f : Fin 4 → Fin 1792 → EReal) : ∑ k : Fin 7168, f (posOf k) (groupOf k) = ∑ a : Fin 4, ∑ g : Fin 1792, f a g := by
  rw [← Fintype.sum_prod_type' f, ← Equiv.sum_comp rowEquiv]
  rfl

end Cert.KernelIdeal.Hand
-- ==== Proof.Pow2.lean ====
module

public import Idealize.ShloMosaic.PureOps.Ideal.Laws
public import Idealize.ShloMosaic.Lib.IndicatorCount

@[expose] public section

/-!
# The power-of-two scale

Counting the powers of two that do not exceed `f` gives the exponent of the least power above it, as an extended real: the
kernel's exponent words against the reference's minimum over the listed powers.
-/

noncomputable section

namespace Cert.KernelIdeal.Hand

open Idealize.ShloMosaic

/-- The f32 pattern with exponent field `k` and nothing else. -/
@[irreducible] def powBits (k : BitVec 32) : BitVec 32 := IntOp.shli ArithUnit.vector k 23#32

theorem powBits_fields : ∀ k : Fin 256, (powBits (BitVec.ofNat 32 k.val)).extractLsb' 31 1 = 0#1
    ∧ ((powBits (BitVec.ofNat 32 k.val)).extractLsb' 23 8).toNat = k.val
    ∧ ((powBits (BitVec.ofNat 32 k.val)).extractLsb' 0 23).toNat = 0 := by
  unfold powBits
  decide +kernel

/-- A pattern with the sign and the trailing bits clear, by its exponent field. -/
theorem ofBits_fields (b : BitVec 32) (k : Nat) (hs : b.extractLsb' 31 1 = 0#1) (he : (b.extractLsb' 23 8).toNat = k)
    (hf : (b.extractLsb' 0 23).toNat = 0) :
    Ideal.ofBits .f32 b = if k = 255 then ⊤ else if k = 0 then 0 else (((2 : ℝ) ^ ((k : ℤ) - 127) : ℝ) : EReal) := by
  have e : Ideal.ofBits .f32 b = Ideal.ieee 8 23 b := rfl
  rw [e]
  unfold Ideal.ieee
  simp only [Nat.reduceAdd, hs, he, hf]
  norm_num
  split
  · rfl
  · split
    · rfl
    · have h2' : (2 : ℝ) ≠ 0 := by norm_num
      rw [← EReal.coe_mul, show (8388608 : ℝ) = (2 : ℝ) ^ (23 : ℤ) by norm_num, ← zpow_add₀ h2']
      congr 2
      ring

/-- An exponent field below 256. -/
theorem ofBits_powBits (k : Nat) (hk : k ≤ 255) : Ideal.ofBits .f32 (powBits (BitVec.ofNat 32 k))
    = if k = 255 then ⊤ else if k = 0 then 0 else (((2 : ℝ) ^ ((k : ℤ) - 127) : ℝ) : EReal) :=
  have h := powBits_fields ⟨k, by omega⟩
  ofBits_fields _ k h.1 h.2.1 h.2.2

/-- An exponent field between 1 and 254 denotes the power of two. -/
theorem ofBits_pow (k : Nat) (h1 : 1 ≤ k) (h2 : k ≤ 254) :
    Ideal.ofBits .f32 (powBits (BitVec.ofNat 32 k)) = (((2 : ℝ) ^ ((k : ℤ) - 127) : ℝ) : EReal) := by
  rw [ofBits_powBits k (by omega), if_neg (by omega), if_neg (by omega)]

/-- The zero pattern denotes zero. -/
theorem ofBits_pow_zero : Ideal.ofBits .f32 (powBits (BitVec.ofNat 32 0)) = 0 := by
  rw [ofBits_powBits 0 (by omega), if_neg (by omega), if_pos rfl]

/-- Exponent field 255 denotes infinity. -/
theorem ofBits_pow_top : Ideal.ofBits .f32 (powBits (BitVec.ofNat 32 255)) = ⊤ := by
  rw [ofBits_powBits 255 (by omega), if_pos rfl]

/-- The powers of two grow with the exponent field. -/
theorem ofBits_pow_le {j k : Nat} (hj : j ≤ 254) (hk : k ≤ 254) :
    j ≤ k → Ideal.ofBits .f32 (powBits (BitVec.ofNat 32 j)) ≤ Ideal.ofBits .f32 (powBits (BitVec.ofNat 32 k)) := by
  intro h
  rcases Nat.eq_zero_or_pos k with rfl | hk0
  · obtain rfl : j = 0 := by omega
    exact le_refl _
  rw [ofBits_pow k hk0 hk]
  rcases Nat.eq_zero_or_pos j with rfl | hj0
  · rw [ofBits_pow_zero]
    exact EReal.coe_nonneg.mpr (by positivity)
  rw [ofBits_pow j hj0 hj]
  exact EReal.coe_le_coe_iff.mpr (zpow_le_zpow_right₀ (by norm_num) (by omega))

/-- The number of exponent fields whose powers do not exceed `f`. -/
def powCount (f : EReal) : Nat := (Finset.univ.filter fun k : Fin 256 => Ideal.ofBits .f32 (powBits (BitVec.ofNat 32 k.val)) ≤ f).card

/-- The exponent fields whose powers do not exceed `f` are those below their number, if `0 ≤ f < 2 ^ 120`. -/
theorem powCount_spec {f : EReal} (h0 : 0 ≤ f) (h1 : f < (((2 : ℝ) ^ (120 : ℤ) : ℝ) : EReal)) :
    1 ≤ powCount f ∧ powCount f ≤ 247 ∧ ∀ k : Nat, k ≤ 254 →
      (Ideal.ofBits .f32 (powBits (BitVec.ofNat 32 k)) ≤ f ↔ k < powCount f) := by
  classical
  have hex : ∃ n : Nat, n ≤ 247 ∧ ¬ Ideal.ofBits .f32 (powBits (BitVec.ofNat 32 n)) ≤ f := by
    refine ⟨247, le_refl _, ?_⟩
    rw [ofBits_pow 247 (by norm_num) (by norm_num)]
    exact not_le.mpr h1
  have hex' : ∃ n : Nat, ¬ Ideal.ofBits .f32 (powBits (BitVec.ofNat 32 n)) ≤ f := hex.imp fun _ h => h.2
  set c := Nat.find hex' with hc
  have hcn : ¬ Ideal.ofBits .f32 (powBits (BitVec.ofNat 32 c)) ≤ f := Nat.find_spec hex'
  have hc247 : c ≤ 247 := by
    obtain ⟨n, hn, hp⟩ := hex
    exact (Nat.find_min' hex' hp).trans hn
  have hc1 : 1 ≤ c := by
    rcases Nat.eq_zero_or_pos c with h | h
    · rw [h, ofBits_pow_zero] at hcn
      exact absurd h0 hcn
    · exact h
  have hiff : ∀ k : Nat, k ≤ 254 → (Ideal.ofBits .f32 (powBits (BitVec.ofNat 32 k)) ≤ f ↔ k < c) := by
    intro k hk
    constructor
    · intro h
      by_contra hn
      exact hcn ((ofBits_pow_le (by omega) hk (not_lt.mp hn)).trans h)
    · intro h
      exact not_not.mp (Nat.find_min hex' h)
  have hcard : powCount f = c := by
    unfold powCount
    have e : (Finset.univ.filter fun k : Fin 256 => Ideal.ofBits .f32 (powBits (BitVec.ofNat 32 k.val)) ≤ f)
        = Finset.univ.filter fun k : Fin 256 => k.val < c := by
      refine Finset.filter_congr fun k _ => ?_
      by_cases hk : k.val ≤ 254
      · exact hiff k.val hk
      · have hk' : k.val = 255 := by have := k.isLt; omega
        rw [hk', ofBits_pow_top]
        constructor
        · intro h
          exact absurd (lt_of_le_of_lt h h1) (not_lt.mpr le_top)
        · intro h
          omega
    rw [e]
    have := Fin.card_filter_val_lt (n := 256) (m := c)
    rw [this]
    omega
  rw [hcard]
  exact ⟨hc1, hc247, hiff⟩

/-- A power the vector unit forms from a word of the exponent. -/
theorem exp2_pow : ∀ k : Fin 254, (IntOp.subi (BitVec.ofNat 32 k.val) 126#32).toInt = (k.val : ℤ) - 126 := by
  decide +kernel

theorem exp2_eq (k : Fin 254) : (FloatOps.exp2 (FloatOps.sitofp (F := Ideal) FTy.f32 (IntOp.subi (BitVec.ofNat 32 k.val) 126#32)) : Ideal .f32)
    = Ideal.ofBits .f32 (powBits (BitVec.ofNat 32 (k.val + 1))) := by
  rw [ofBits_pow (k.val + 1) (by omega) (by omega)]
  show Ideal.exp2 (((IntOp.subi (BitVec.ofNat 32 k.val) 126#32).toInt : ℝ) : EReal) = _
  rw [exp2_pow]
  show ((Real.rpow 2 (((k.val : ℤ) - 126 : ℤ) : ℝ) : ℝ) : EReal) = _
  congr 1
  show (2 : ℝ) ^ (((k.val : ℤ) - 126 : ℤ) : ℝ) = _
  rw [Real.rpow_intCast]
  congr 1
  push_cast
  ring

/-- The least power of two above `f`, among those the reference lists. -/
def leastPow (f : EReal) : EReal :=
  Finset.fold min ⊤ (fun k : Fin 254 => if f < (FloatOps.exp2 (FloatOps.sitofp (F := Ideal) FTy.f32 (IntOp.subi (BitVec.ofNat 32 k.val) 126#32)) : Ideal .f32)
    then (FloatOps.exp2 (FloatOps.sitofp (F := Ideal) FTy.f32 (IntOp.subi (BitVec.ofNat 32 k.val) 126#32)) : Ideal .f32) else ⊤) Finset.univ

/-- It is the power whose exponent field is the count. -/
theorem leastPow_eq {f : EReal} (h0 : 0 ≤ f) (h1 : f < (((2 : ℝ) ^ (120 : ℤ) : ℝ) : EReal)) :
    leastPow f = Ideal.ofBits .f32 (powBits (BitVec.ofNat 32 (powCount f))) := by
  obtain ⟨hc1, hc2, hc⟩ := powCount_spec h0 h1
  unfold leastPow
  simp only [exp2_eq]
  show Finset.univ.inf _ = _
  apply le_antisymm
  · refine (Finset.inf_le (Finset.mem_univ (⟨powCount f - 1, by omega⟩ : Fin 254))).trans ?_
    have e : powCount f - 1 + 1 = powCount f := by omega
    simp only [e]
    rw [if_pos]
    rw [← not_le, hc _ (by omega)]
    omega
  · refine Finset.le_inf fun k _ => ?_
    split
    · rename_i h
      rw [← not_le, hc _ (by omega)] at h
      exact ofBits_pow_le (by omega) (by omega) (by omega)
    · exact le_top

/-- The exponent word the kernel forms. -/
def expWord (f : EReal) : BitVec 32 := if f = 0 then 0#32 else BitVec.ofNat 32 (powCount f) - 1#32 - 126#32

theorem up_word : ∀ c : Fin 256, BitVec.ofNat 32 c.val - 1#32 - 126#32 + 127#32 = BitVec.ofNat 32 c.val := by decide +kernel
theorem down_word : ∀ c : Fin 255, 127#32 - (BitVec.ofNat 32 c.val - 1#32 - 126#32) = BitVec.ofNat 32 (254 - c.val) := by decide +kernel

/-- The scale the reference takes for `f`. -/
def refScale (f : EReal) : EReal := if f = 0 then 1 else leastPow f

theorem ofBits_one : Ideal.ofBits .f32 (powBits 127#32) = 1 := by
  have := ofBits_pow 127 (by norm_num) (by norm_num)
  norm_num at this
  exact this

/-- THE SCALE: the pattern with the exponent word's field is the reference's scale. -/
theorem scale_eq {f : EReal} (h0 : 0 ≤ f) (h1 : f < (((2 : ℝ) ^ (120 : ℤ) : ℝ) : EReal)) :
    Ideal.ofBits .f32 (powBits (expWord f + 127#32)) = refScale f := by
  obtain ⟨hc1, hc2, hc⟩ := powCount_spec h0 h1
  unfold expWord refScale
  split
  · exact ofBits_one
  · rw [up_word ⟨powCount f, by omega⟩, leastPow_eq h0 h1]

/-- ITS RECIPROCAL: the pattern with the negated field is one over the scale. -/
theorem inv_eq {f : EReal} (h0 : 0 ≤ f) (h1 : f < (((2 : ℝ) ^ (120 : ℤ) : ℝ) : EReal)) :
    Ideal.ofBits .f32 (powBits (127#32 - expWord f)) = Ideal.div 1 (refScale f) := by
  obtain ⟨hc1, hc2, hc⟩ := powCount_spec h0 h1
  unfold expWord refScale
  split
  · rw [show (127#32 - 0#32) = 127#32 from rfl, ofBits_one]
    unfold Ideal.div
    rw [if_neg one_ne_zero, inv_one, mul_one]
  · rw [down_word ⟨powCount f, by omega⟩, leastPow_eq h0 h1, ofBits_pow _ (by show 1 ≤ 254 - powCount f; omega) (by show 254 - powCount f ≤ 254; omega),
      ofBits_pow _ hc1 (by omega)]
    unfold Ideal.div
    rw [if_neg, one_mul, ← EReal.coe_inv]
    · congr 1
      rw [← zpow_neg]
      congr 1
      show ((254 - powCount f : ℕ) : ℤ) - 127 = _
      rw [Nat.cast_sub (by omega)]
      push_cast
      ring
    · have : (2 : ℝ) ^ ((powCount f : ℤ) - 127) ≠ 0 := by positivity
      exact_mod_cast this

end Cert.KernelIdeal.Hand
-- ==== Proof.QuantIdeal.lean ====
module

public import proofs.«01_k».proof.Proof.Quant
public import proofs.«01_k».proof.Proof.Pow2
public import proofs.«01_k».proof.Proof.Gen.ReferenceIdeal.Skeleton
public import Idealize.ShloMosaic.Lib.Pointwise

@[expose] public section

/-!
# The quantiser over the extended reals

The kernel's row scales and codes are the reference's, and its gathered activations are the codes of the columns they come
from.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Minus infinity's pattern. -/
theorem ofBits_bot : Ideal.ofBits .f32 4286578688#32 = ⊥ := by
  have e : Ideal.ofBits .f32 4286578688#32 = Ideal.ieee 8 23 (4286578688#32) := rfl
  rw [e]
  unfold Ideal.ieee
  simp only [show (4286578688#32 : BitVec 32).extractLsb' (8 + 23) 1 = 1#1 by decide, show ((4286578688#32 : BitVec 32).extractLsb' 23 8).toNat = 255 by decide,
    show ((4286578688#32 : BitVec 32).extractLsb' 0 23).toNat = 0 by decide]
  norm_num

/-- Infinity's pattern. -/
theorem ofBits_top : Ideal.ofBits .f32 2139095040#32 = ⊤ := by
  have := ofBits_fields 2139095040#32 255 (by decide) (by decide) (by decide)
  rw [this, if_pos rfl]

/-- The constant the row maximum is multiplied by. -/
theorem ofBits_c0 : Ideal.ofBits .f32 991054117#32 = (((9586981 : ℝ) * (2 : ℝ) ^ (-32 : ℤ) : ℝ) : EReal) := by
  have e : Ideal.ofBits .f32 991054117#32 = Ideal.ieee 8 23 (991054117#32) := rfl
  rw [e]
  unfold Ideal.ieee
  simp only [show (991054117#32 : BitVec 32).extractLsb' (8 + 23) 1 = 0#1 by decide, show ((991054117#32 : BitVec 32).extractLsb' 23 8).toNat = 118 by decide,
    show ((991054117#32 : BitVec 32).extractLsb' 0 23).toNat = 1198373 by decide]
  norm_num

/-- The greatest finite bf16. -/
theorem ofBits_big : Ideal.ofBits .bf16 0x7F7F#16 = (((255 : ℝ) * (2 : ℝ) ^ (120 : ℤ) : ℝ) : EReal) := by
  have e : Ideal.ofBits .bf16 0x7F7F#16 = Ideal.ieee 8 7 (0x7F7F#16) := rfl
  rw [e]
  unfold Ideal.ieee
  simp only [show (0x7F7F#16 : BitVec 16).extractLsb' (8 + 7) 1 = 0#1 by decide, show ((0x7F7F#16 : BitVec 16).extractLsb' 7 8).toNat = 254 by decide,
    show ((0x7F7F#16 : BitVec 16).extractLsb' 0 7).toNat = 127 by decide]
  norm_num

theorem ofBits_ideal (w : BitVec 32) : (FloatOps.ofBits (F := Ideal) .f32 w : EReal) = Ideal.ofBits .f32 w := rfl

theorem ref_pay2 (x : Vec Ideal S256x7168 .bf16) : Cert.ReferenceIdeal.Gen.k0_pay2 (F := Ideal) x = x := by
  unfold Cert.ReferenceIdeal.Gen.k0_pay2
  rw [shapeCast_self]
  rfl

theorem ref_lanes (v : Vec Ideal S256x1 .f32) (p : Fin 256) (k : Fin 7168) :
    (broadcastTo S256x7168 v Cert.ReferenceIdeal.Gen.broadcasts_S256x1_S256x7168 (ix2 p k) : EReal) = v (ix2 p 0) := by
  pointwise

theorem ref_clamp (y w : FVec Ideal S256x7168 .f32) (p : Fin 256) (k : Fin 7168) (c c' : EReal) :
    (truncf .fp8e4m3 (minimumf (broadcast S256x7168 (c : Ideal .f32)) (maximumf (broadcast S256x7168 (c' : Ideal .f32)) (mulf y w))) Cert.ReferenceIdeal.Gen.bitsLt_fp8e4m3_f32 (ix2 p k) : EReal) =
    min c (max c' (y (ix2 p k) * w (ix2 p k))) := rfl

theorem ref_inv (z : FVec Ideal S256x1 .f32) (p : Fin 256) (c : Ideal .f32) :
    (divf (broadcast S256x1 c) z (ix2 p 0) : EReal) = Ideal.div c (z (ix2 p 0)) := rfl

theorem ref_pay4 (x : Vec Ideal S256x7168 .bf16) : Cert.ReferenceIdeal.Gen.k0_pay4 (F := Ideal) x =
    truncf .fp8e4m3 (minimumf (broadcast S256x7168 (FloatOps.ofBits .f32 1138753536#32)) (maximumf (broadcast S256x7168 (FloatOps.ofBits .f32 3286237184#32))
      (mulf (Cert.ReferenceIdeal.Gen.k0_pay2 (F := Ideal) x) (broadcastTo S256x7168 (divf (broadcast S256x1 (FloatOps.ofBits .f32 1065353216#32))
        (Cert.ReferenceIdeal.Gen.k0_pay3 (F := Ideal) x)) Cert.ReferenceIdeal.Gen.broadcasts_S256x1_S256x7168)))) Cert.ReferenceIdeal.Gen.bitsLt_fp8e4m3_f32 := by
  rfl

/-- The reference's codes at an index. -/
theorem ref_pay4_at (x : Vec Ideal S256x7168 .bf16) (p : Fin 256) (k : Fin 7168) :
    (Cert.ReferenceIdeal.Gen.k0_pay4 (F := Ideal) x (ix2 p k) : EReal) = min (Ideal.ofBits FTy.f32 1138753536#32)
      (max (Ideal.ofBits FTy.f32 3286237184#32) (x (ix2 p k) * Ideal.div 1 (Cert.ReferenceIdeal.Gen.k0_pay3 (F := Ideal) x (ix2 p 0)))) := by
  rw [ref_pay4]
  refine (ref_clamp _ _ p k _ _).trans ?_
  rw [ref_lanes, ref_inv, ref_pay2, ofBits_ideal, ofBits_ideal, ofBits_ideal, Ideal.ofBits_one_f32]

/-- A row's maximum. -/
theorem ref_max (w : FVec Ideal S256x7168 .f32) (p : Fin 256) :
    (shapeCast S256x1 (multiReduction .maximumf [1] Cert.ReferenceIdeal.S256 w 0xFF800000#32 Cert.ReferenceIdeal.Gen.reduces_S256x7168_S256 (.inl rfl) rfl) Cert.ReferenceIdeal.Gen.shapeCasts_S256_S256x1 (ix2 p 0) : EReal)
      = Finset.fold max (Ideal.ofBits .f32 4286578688#32) (fun k : Fin 7168 => (w (ix2 p k) : EReal)) Finset.univ := by
  pointwise

/-- The powers of two the scale is chosen among. -/
noncomputable def refPows : FVec Ideal Cert.ReferenceIdeal.S256x254 .f32 :=
  exp2 (sitofp .f32 (subi (iota .tc Cert.ReferenceIdeal.S256x254 32 [1] Cert.ReferenceIdeal.Gen.iota_S256x254_d1_w32) (broadcast Cert.ReferenceIdeal.S256x254 126#32)))

theorem refPows_at (p : Fin 256) (i : Fin 254) : (refPows (ix2 p i) : EReal)
    = FloatOps.exp2 (F := Ideal) (φ := .f32) (FloatOps.sitofp (F := Ideal) FTy.f32 (IntOp.subi (BitVec.ofNat 32 i.val) 126#32)) := by
  pointwise [refPows]

/-- The least power among those above the row's value, and one for a row of zeros. -/
theorem ref_least (v : FVec Ideal S256x1 .f32) (w : FVec Ideal Cert.ReferenceIdeal.S256x254 .f32) (p : Fin 256) (c0 cz c1 cinf : Ideal .f32) :
    (select (cmpf .oeq v (broadcast S256x1 cz)) (broadcast S256x1 c1)
      (shapeCast S256x1 (multiReduction .minimumf [1] Cert.ReferenceIdeal.S256
        (select (cmpf .ogt w (broadcastTo Cert.ReferenceIdeal.S256x254 (mulf v (broadcast S256x1 c0)) Cert.ReferenceIdeal.Gen.broadcasts_S256x1_S256x254)) w (broadcast Cert.ReferenceIdeal.S256x254 cinf))
        0x7F800000#32 Cert.ReferenceIdeal.Gen.reduces_S256x254_S256 (.inl rfl) rfl) Cert.ReferenceIdeal.Gen.shapeCasts_S256_S256x1) (ix2 p 0) : EReal)
      = if v (ix2 p 0) = cz then c1 else
          Finset.fold min (Ideal.ofBits .f32 2139095040#32) (fun i : Fin 254 => if v (ix2 p 0) * c0 < w (ix2 p i) then (w (ix2 p i) : EReal) else cinf) Finset.univ := by
  pointwise

theorem ref_pay3 (x : Vec Ideal S256x7168 .bf16) : Cert.ReferenceIdeal.Gen.k0_pay3 (F := Ideal) x =
    (fun v : FVec Ideal S256x1 .f32 => select (cmpf .oeq v (broadcast S256x1 (FloatOps.ofBits .f32 0x00000000#32))) (broadcast S256x1 (FloatOps.ofBits .f32 0x3F800000#32))
      (shapeCast S256x1 (multiReduction .minimumf [1] Cert.ReferenceIdeal.S256
        (select (cmpf .ogt refPows (broadcastTo Cert.ReferenceIdeal.S256x254 (mulf v (broadcast S256x1 (FloatOps.ofBits .f32 0x3B124925#32))) Cert.ReferenceIdeal.Gen.broadcasts_S256x1_S256x254)) refPows
          (broadcast Cert.ReferenceIdeal.S256x254 (FloatOps.ofBits .f32 0x7F800000#32)))
        0x7F800000#32 Cert.ReferenceIdeal.Gen.reduces_S256x254_S256 (.inl rfl) rfl) Cert.ReferenceIdeal.Gen.shapeCasts_S256_S256x1))
      (shapeCast S256x1 (multiReduction .maximumf [1] Cert.ReferenceIdeal.S256 (absf (Cert.ReferenceIdeal.Gen.k0_pay2 (F := Ideal) x)) 0xFF800000#32 Cert.ReferenceIdeal.Gen.reduces_S256x7168_S256 (.inl rfl) rfl) Cert.ReferenceIdeal.Gen.shapeCasts_S256_S256x1) := by
  rfl

theorem absf_at (w : FVec Ideal S256x7168 .f32) (i : S256x7168.Idx) : (absf w i : EReal) = FloatOps.absf (F := Ideal) (φ := .bf16) (w i) := rfl

/-- The reference's scale at an index. -/
theorem ref_pay3_at (x : Vec Ideal S256x7168 .bf16) (p : Fin 256) :
    (Cert.ReferenceIdeal.Gen.k0_pay3 (F := Ideal) x (ix2 p 0) : EReal)
      = if Finset.fold max ⊥ (fun k : Fin 7168 => (FloatOps.absf (F := Ideal) (φ := .bf16) (x (ix2 p k)) : EReal)) Finset.univ = 0 then 1 else
          Finset.fold min ⊤ (fun i : Fin 254 =>
            if Finset.fold max ⊥ (fun k : Fin 7168 => (FloatOps.absf (F := Ideal) (φ := .bf16) (x (ix2 p k)) : EReal)) Finset.univ * Ideal.ofBits FTy.f32 991054117#32
                < FloatOps.exp2 (F := Ideal) (φ := .f32) (FloatOps.sitofp (F := Ideal) FTy.f32 (IntOp.subi (BitVec.ofNat 32 i.val) 126#32))
            then (FloatOps.exp2 (F := Ideal) (φ := .f32) (FloatOps.sitofp (F := Ideal) FTy.f32 (IntOp.subi (BitVec.ofNat 32 i.val) 126#32)) : EReal) else ⊤) Finset.univ := by
  rw [ref_pay3]
  refine (ref_least _ refPows p _ _ _ _).trans ?_
  rw [ref_max (absf (Cert.ReferenceIdeal.Gen.k0_pay2 (F := Ideal) x)) p]
  simp only [refPows_at, absf_at, ref_pay2, ofBits_ideal, Ideal.ofBits_one_f32, Ideal.ofBits_zero_f32, ofBits_bot, ofBits_top]

theorem ofBool_one (b : Bool) : BitVec.ofBool b = 1#1 ↔ b = true := by cases b <;> decide

/-- A magnitude is not negative. -/
theorem absf_nonneg (v : EReal) : (0 : EReal) ≤ (FloatOps.absf (F := Ideal) (φ := .bf16) v : EReal) := by
  show (0 : EReal) ≤ max v (-v)
  rcases le_total 0 v with h | h
  · exact h.trans (le_max_left _ _)
  · exact (EReal.neg_nonneg.mpr h).trans (le_max_right _ _)

/-- The row maximum of the magnitudes. -/
def rowMax (x : Vec Ideal S256x7168 .bf16) (p : Fin 256) : EReal :=
  Finset.univ.sup fun k : Fin 7168 => (FloatOps.absf (F := Ideal) (φ := .bf16) (x (ix2 p k)) : EReal)

theorem maxAcc_succ (x : Vec Ideal S256x7168 .bf16) (n : Nat) (p : Fin 256) (l : Fin 128) :
    (maxAcc (F := Ideal) x (n + 1) (ix2 p l) : EReal) = max (maxAcc (F := Ideal) x n (ix2 p l)) (FloatOps.absf (F := Ideal) (φ := .bf16) (blkOf (F := Ideal) x (n + 1) (ix2 p l))) := by
  show k0_pay175 (F := Ideal) (maxAcc x n) (blkOf x (n + 1)) (ix2 p l) = _
  pointwise [k0_pay175]

theorem maxAcc_zero (x : Vec Ideal S256x7168 .bf16) (p : Fin 256) (l : Fin 128) :
    (maxAcc (F := Ideal) x 0 (ix2 p l) : EReal) = FloatOps.absf (F := Ideal) (φ := .bf16) (blkOf (F := Ideal) x 0 (ix2 p l)) := by
  show k0_pay174 (F := Ideal) (blkOf x 0) (ix2 p l) = _
  pointwise [k0_pay174]

theorem le_maxAcc (x : Vec Ideal S256x7168 .bf16) (p : Fin 256) (l : Fin 128) (n : Nat) : ∀ k, k ≤ n →
    (FloatOps.absf (F := Ideal) (φ := .bf16) (blkOf (F := Ideal) x k (ix2 p l)) : EReal) ≤ maxAcc (F := Ideal) x n (ix2 p l) := by
  induction n with
  | zero =>
    intro k hk
    obtain rfl : k = 0 := by omega
    rw [maxAcc_zero]
  | succ n ih =>
    intro k hk
    rw [maxAcc_succ]
    rcases Nat.lt_or_ge n k with h | h
    · obtain rfl : k = n + 1 := by omega
      exact le_max_right _ _
    · exact (ih k h).trans (le_max_left _ _)

theorem maxAcc_le (x : Vec Ideal S256x7168 .bf16) (p : Fin 256) (l : Fin 128) (n : Nat) :
    (maxAcc (F := Ideal) x n (ix2 p l) : EReal) ≤ rowMax x p := by
  induction n with
  | zero =>
    rw [maxAcc_zero]
    exact Finset.le_sup (f := fun k : Fin 7168 => (FloatOps.absf (F := Ideal) (φ := .bf16) (x (ix2 p k)) : EReal)) (Finset.mem_univ _)
  | succ n ih =>
    rw [maxAcc_succ]
    exact max_le ih (Finset.le_sup (f := fun k : Fin 7168 => (FloatOps.absf (F := Ideal) (φ := .bf16) (x (ix2 p k)) : EReal)) (Finset.mem_univ _))

/-- The maximum over lanes of the maxima lane by lane is the row maximum. -/
theorem fold_maxAcc (x : Vec Ideal S256x7168 .bf16) (p : Fin 256) :
    Finset.fold max (⊥ : EReal) (fun l : Fin 128 => (maxAcc (F := Ideal) x 55 (ix2 p l) : EReal)) Finset.univ = rowMax x p := by
  show Finset.univ.sup _ = _
  apply le_antisymm
  · exact Finset.sup_le fun l _ => maxAcc_le x p l 55
  · refine Finset.sup_le fun k _ => ?_
    refine le_trans ?_ (Finset.le_sup (f := fun l : Fin 128 => (maxAcc (F := Ideal) x 55 (ix2 p l) : EReal)) (Finset.mem_univ (⟨k.val % 128, Nat.mod_lt _ (by decide)⟩ : Fin 128)))
    refine le_trans (le_of_eq ?_) (le_maxAcc x p ⟨k.val % 128, Nat.mod_lt _ (by decide)⟩ 55 (k.val / 128) (by have := k.isLt; omega))
    refine congrArg (FloatOps.absf (F := Ideal) (φ := .bf16)) (congrArg x ?_)
    refine congrArg (ix2 p) (Fin.ext ?_)
    have := k.isLt
    show k.val = (128 * (k.val / 128) + k.val % 128) % 7168
    omega

/-- The activations are finite. -/
def Fin16 (x : Vec Ideal S256x7168 .bf16) : Prop := ∀ i, (FloatOps.absf (F := Ideal) (φ := .bf16) (x i) : EReal) ≤ Ideal.ofBits .bf16 0x7F7F#16

/-- The row maximum times the constant. -/
def rowF (x : Vec Ideal S256x7168 .bf16) (p : Fin 256) : EReal := rowMax x p * Ideal.ofBits FTy.f32 991054117#32

theorem rowMax_nonneg (x : Vec Ideal S256x7168 .bf16) (p : Fin 256) : 0 ≤ rowMax x p :=
  (absf_nonneg (x (ix2 p 0))).trans (Finset.le_sup (f := fun k : Fin 7168 => (FloatOps.absf (F := Ideal) (φ := .bf16) (x (ix2 p k)) : EReal)) (Finset.mem_univ (0 : Fin 7168)))

theorem rowMax_le {x : Vec Ideal S256x7168 .bf16} (h : Fin16 x) (p : Fin 256) : rowMax x p ≤ Ideal.ofBits .bf16 0x7F7F#16 :=
  Finset.sup_le fun k _ => h (ix2 p k)

theorem rowF_nonneg (x : Vec Ideal S256x7168 .bf16) (p : Fin 256) : 0 ≤ rowF x p := by
  unfold rowF
  rw [ofBits_c0]
  exact EReal.mul_nonneg (rowMax_nonneg x p) (EReal.coe_nonneg.mpr (by positivity))

theorem rowF_lt {x : Vec Ideal S256x7168 .bf16} (h : Fin16 x) (p : Fin 256) : rowF x p < (((2 : ℝ) ^ (120 : ℤ) : ℝ) : EReal) := by
  unfold rowF
  refine lt_of_le_of_lt (mul_le_mul_of_nonneg_right (rowMax_le h p) (by rw [ofBits_c0]; exact EReal.coe_nonneg.mpr (by positivity))) ?_
  rw [ofBits_c0, ofBits_big, ← EReal.coe_mul]
  exact EReal.coe_lt_coe_iff.mpr (by norm_num)

theorem rowF_eq_zero (x : Vec Ideal S256x7168 .bf16) (p : Fin 256) : rowF x p = 0 ↔ rowMax x p = 0 := by
  unfold rowF
  rw [mul_eq_zero, ofBits_c0]
  constructor
  · rintro (h | h)
    · exact h
    · exact absurd (EReal.coe_eq_zero.mp h) (by positivity)
  · exact Or.inl

/-- The reference's scale of a row. -/
theorem ref_scale (x : Vec Ideal S256x7168 .bf16) (p : Fin 256) :
    (Cert.ReferenceIdeal.Gen.k0_pay3 (F := Ideal) x (ix2 p 0) : EReal) = refScale (rowF x p) := by
  have key : (Cert.ReferenceIdeal.Gen.k0_pay3 (F := Ideal) x (ix2 p 0) : EReal) = if rowMax x p = 0 then 1 else leastPow (rowF x p) := by
    rw [ref_pay3_at]
    rfl
  rw [key]
  unfold refScale
  exact if_congr (rowF_eq_zero x p).symm rfl rfl

/-- The kernel's exponent word of a row. -/
theorem exp_word (x : Vec Ideal S256x7168 .bf16) (p : Fin 256) :
    k0_pay176 (F := Ideal) (maxAcc x 55) (ix2 p 0) = expWord (rowF x p) := by
  pointwise [k0_pay176]
  rw [ofBits_bot, fold_maxAcc, Idealize.ShloMosaic.IndicatorCount.fold_addi_setWidth_eq_card]
  unfold expWord
  refine if_congr Iff.rfl rfl ?_
  show BitVec.ofNat 32 _ - 1#32 - 126#32 = _
  congr 3
  unfold powCount
  congr 1
  refine Finset.filter_congr fun k _ => ?_
  unfold powBits rowF
  show BitVec.ofBool (decide _) = 1#1 ↔ _
  rw [ofBool_one, decide_eq_true_iff]

/-- THE SCALES are the reference's. -/
theorem scaleOf_eq {x : Vec Ideal S256x7168 .bf16} (h : Fin16 x) (p : Fin 256) :
    (k0_pay177 (F := Ideal) (maxAcc x 55) (ix2 p 0) : EReal) = Cert.ReferenceIdeal.Gen.k0_pay3 (F := Ideal) x (ix2 p 0) := by
  rw [ref_scale, ← scale_eq (rowF_nonneg x p) (rowF_lt h p), ← exp_word]
  pointwise [k0_pay177]
  unfold powBits
  rfl

/-- … and their reciprocals. -/
theorem invOf_eq {x : Vec Ideal S256x7168 .bf16} (h : Fin16 x) (p : Fin 256) :
    (k0_pay178 (F := Ideal) (maxAcc x 55) (ix2 p 0) : EReal) = Ideal.div 1 (Cert.ReferenceIdeal.Gen.k0_pay3 (F := Ideal) x (ix2 p 0)) := by
  rw [ref_scale, ← inv_eq (rowF_nonneg x p) (rowF_lt h p), ← exp_word]
  pointwise [k0_pay178]
  unfold powBits
  rfl

theorem scaleOf_arr {x : Vec Ideal S256x7168 .bf16} (h : Fin16 x) : scaleOf (F := Ideal) x = Cert.ReferenceIdeal.Gen.k0_pay3 (F := Ideal) x := by
  funext j
  idx_vars j
  obtain rfl : j1 = 0 := Subsingleton.elim _ _
  exact scaleOf_eq h j0

/-- The scales along lanes. -/
theorem xsOf_eq {x : Vec Ideal S256x7168 .bf16} (h : Fin16 x) (p : Fin 256) (l : Fin 128) :
    (xsOf (F := Ideal) x (ix2 p l) : EReal) = Cert.ReferenceIdeal.Gen.k0_pay3 (F := Ideal) x (ix2 p 0) := by
  rw [← scaleOf_eq h p]
  unfold xsOf
  pointwise [k0_pay180, k0_pay179]

/-- The code of an activation. -/
def codeE (x : Vec Ideal S256x7168 .bf16) (p : Fin 256) (k : Fin 7168) : EReal :=
  min (Ideal.ofBits FTy.f32 1138753536#32) (max (Ideal.ofBits FTy.f32 3286237184#32) (x (ix2 p k) * Ideal.div 1 (Cert.ReferenceIdeal.Gen.k0_pay3 (F := Ideal) x (ix2 p 0))))

theorem ref_codes (x : Vec Ideal S256x7168 .bf16) (p : Fin 256) (k : Fin 7168) :
    (Cert.ReferenceIdeal.Gen.k0_pay4 (F := Ideal) x (ix2 p k) : EReal) = codeE x p k := by
  rw [ref_pay4_at]
  rfl

/-- A block of the kernel's codes. -/
theorem blk_codes {x : Vec Ideal S256x7168 .bf16} (h : Fin16 x) (b : Nat) (hb : b < 56) (p : Fin 256) (l : Fin 128) :
    (k0_pay181 (F := Ideal) (k0_pay178 (maxAcc x 55)) (blkOf x b) (ix2 p l) : EReal) = codeE x p ⟨128 * b + l.val, by omega⟩ := by
  have e : (blkOf (F := Ideal) x b (ix2 p l) : EReal) = x (ix2 p ⟨128 * b + l.val, by omega⟩) := by
    refine congrArg x (congrArg (ix2 p) (Fin.ext ?_))
    show (128 * b + l.val) % 7168 = 128 * b + l.val
    omega
  unfold codeE
  rw [← invOf_eq h p, ← e]
  generalize k0_pay178 (F := Ideal) (maxAcc x 55) = w
  generalize blkOf (F := Ideal) x b = y
  pointwise [k0_pay181]

/-- THE CODES are the reference's. -/
theorem codesOf_arr {x : Vec Ideal S256x7168 .bf16} (h : Fin16 x) : codesOf (F := Ideal) x = Cert.ReferenceIdeal.Gen.k0_pay4 (F := Ideal) x := by
  funext j
  idx_vars j
  refine (blk_codes h (j1.val / 128) (by omega) j0 ⟨j1.val % 128, Nat.mod_lt _ (by decide)⟩).trans (Eq.trans ?_ (ref_codes x j0 j1).symm)
  congr 1
  exact Fin.ext (by show 128 * (j1.val / 128) + j1.val % 128 = j1.val; omega)

/-- The lane of its block a gathered activation comes from. -/
def srcLane (q : Fin 128) : Fin 128 := ⟨q.val / 32 * 32 + 4 * (q.val % 16 / 2) + (if q.val / 16 % 2 = 1 then 2 - q.val % 2 else 3 * (q.val % 2)), by split <;> omega⟩

/-- The column a gathered activation comes from. -/
def srcCol (k : Fin 7168) : Fin 7168 := ⟨k.val / 32 * 32 + 4 * (k.val % 16 / 2) + (if k.val / 16 % 2 = 1 then 2 - k.val % 2 else 3 * (k.val % 2)), by split <;> omega⟩

theorem gather_word (v : FVec Ideal S256x1 .f32) (y : Vec Ideal S256x128 .bf16) (p : Fin 256) (q : Fin 128) :
    (k0_pay182 (F := Ideal) v y (ix2 p q) : EReal) = k0_pay181 (F := Ideal) v y (ix2 p (srcLane q)) := by
  pointwise [k0_pay182]
  refine congrArg (k0_pay181 (F := Ideal) v y) (congrArg (ix2 p) (Fin.ext ?_))
  dsimp only
  clear v y p
  revert q
  decide +kernel

/-- THE GATHERED CODES. -/
theorem xpOf_eq {x : Vec Ideal S256x7168 .bf16} (h : Fin16 x) (p : Fin 256) (k : Fin 7168) :
    (xpOf (F := Ideal) x (ix2 p k) : EReal) = codeE x p (srcCol k) := by
  show (k0_pay182 (F := Ideal) (k0_pay178 (maxAcc x 55)) (blkOf x (k.val / 128)) (ix2 p ⟨k.val % 128, Nat.mod_lt _ (by decide)⟩) : EReal) = _
  rw [gather_word, blk_codes h (k.val / 128) (by omega)]
  congr 1
  refine Fin.ext ?_
  show 128 * (k.val / 128) + (k.val % 128 / 32 * 32 + 4 * (k.val % 128 % 16 / 2) + (if k.val % 128 / 16 % 2 = 1 then 2 - k.val % 128 % 2 else 3 * (k.val % 128 % 2)))
    = k.val / 32 * 32 + 4 * (k.val % 16 / 2) + (if k.val / 16 % 2 = 1 then 2 - k.val % 2 else 3 * (k.val % 2))
  have e1 : k.val % 128 / 16 % 2 = k.val / 16 % 2 := by omega
  have e2 : k.val % 128 % 2 = k.val % 2 := by omega
  rw [e1, e2]
  split <;> omega

end Cert.KernelIdeal.Hand
-- ==== Proof.YKernel.lean ====
module

public import proofs.«01_k».proof.Proof.Final
public import proofs.«01_k».proof.Proof.Weights
public import proofs.«01_k».proof.Proof.QuantIdeal

@[expose] public section

/-!
# The kernel's product over the extended reals

At every index the product is the sum over the columns of the codes times the weights, times the row's scale.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The weights of the output column `n`. -/
def weightOf (c : Dev nD) (n : Fin 18432) (g : Fin 1792) (pos : Fin 4) : EReal :=
  weightE (fun j => m ((c : Thread nD τ).loc main_arg1) (ix2 n j)) (fun j => m ((c : Thread nD τ).loc main_arg2) (ix2 n j))
    (fun j => m ((c : Thread nD τ).loc main_arg3) (ix2 n j)) g pos

/-- Every word of column indices is ordered. -/
def OrderedAll (c : Dev nD) : Prop := ∀ (n : Fin 18432) (w : Fin 224), Ordered (m ((c : Thread nD τ).loc main_arg2) (ix2 n w))

/-- The first dense chunk of a point holds the weights of its first 256 columns. -/
theorem chunkA_eq (c : Dev nD) (hO : OrderedAll m c) (n : Nat) (hn : n < 36) (q : Fin 256) (k : Fin 7168) :
    (rowAt (chunkA (F := Ideal) m c n) k q : EReal) = weightOf m c ⟨512 * n + q.val, by omega⟩ (groupOf k) (posOf k) := by
  by_cases h0 : n = 0
  · have e : (⟨512 * n + q.val, by omega⟩ : Fin 18432) = ⟨q.val, by omega⟩ := Fin.ext (by show 512 * n + q.val = q.val; omega)
    rw [e]
    unfold chunkA
    rw [if_pos h0, dense_eq _ _ _ q (fun w => by rw [iblk2]; exact hO _ _)]
    unfold weightOf
    simp only [iblk1, iblk2, iblk3]
  · have hp : (pt (n - 1)).val = n - 1 := Nat.mod_eq_of_lt (by omega)
    have e : ∀ h, (⟨min (2 * (pt (n - 1)).val + 2) 71 * 256 + q.val, h⟩ : Fin 18432) = ⟨512 * n + q.val, by omega⟩ :=
      fun h => Fin.ext (by show min (2 * (pt (n - 1)).val + 2) 71 * 256 + q.val = 512 * n + q.val; rw [hp]; omega)
    unfold chunkA
    rw [if_neg h0, dense_eq _ _ _ q (fun w => by rw [iblk8]; exact hO _ _)]
    unfold weightOf
    simp only [iblk7, iblk8, iblk9, e]

/-- The second holds those of its last 256. -/
theorem chunkB_eq (c : Dev nD) (hO : OrderedAll m c) (t : Fin cfg0.N) (q : Fin 256) (k : Fin 7168) :
    (rowAt (chunkB (F := Ideal) m c t) k q : EReal) = weightOf m c ⟨512 * t.val + 256 + q.val, by have := lt36 t; omega⟩ (groupOf k) (posOf k) := by
  have e : ∀ h, (⟨(2 * t.val + 1) * 256 + q.val, h⟩ : Fin 18432) = ⟨512 * t.val + 256 + q.val, by have := lt36 t; omega⟩ :=
    fun h => Fin.ext (by show (2 * t.val + 1) * 256 + q.val = 512 * t.val + 256 + q.val; omega)
  unfold chunkB
  rw [dense_eq _ _ _ q (fun w => by rw [iblk5]; exact hO _ _)]
  unfold weightOf
  simp only [iblk4, iblk5, iblk6, e]

/-- The column `4 g + pos` of the activations. -/
def colOf (pos : Fin 4) (g : Fin 1792) : Fin 7168 := ⟨4 * g.val + pos.val, by omega⟩

theorem srcCol_eq (k : Fin 7168) : srcCol k = colOf (posOf k) (groupOf k) := by
  refine Fin.ext ?_
  show k.val / 32 * 32 + 4 * (k.val % 16 / 2) + (if k.val / 16 % 2 = 1 then 2 - k.val % 2 else 3 * (k.val % 2))
    = 4 * (k.val / 32 * 8 + k.val % 16 / 2) + (if k.val / 16 % 2 = 1 then 2 - k.val % 2 else 3 * (k.val % 2))
  omega

/-- The dot product of a row of codes and a column of weights, times the row's scale. -/
def dotE (c : Dev nD) (r : Fin 256) (n : Fin 18432) : EReal :=
  (∑ pos : Fin 4, ∑ g : Fin 1792, codeE (xArr m c) r (colOf pos g) * weightOf m c n g pos) * Cert.ReferenceIdeal.Gen.k0_pay3 (F := Ideal) (xArr m c) (ix2 r 0)

theorem product_at (d : Vec Ideal S3584x2x256 .bf16) (x : Vec Ideal S256x7168 .bf16) (r c : Fin 256) :
    (k0_pay532 (F := Ideal) d x (ix2 r c) : EReal) = ∑ k : Fin 7168, (x (ix2 r k) : EReal) * rowAt d k c := by
  pointwise [k0_pay532]
  refine Finset.sum_congr rfl fun k _ => congrArg (x (ix2 r k) * ·) ?_
  unfold rowAt
  split_ifs with h
  · exact congrArg (fun p => (d (ix3 _ p c) : EReal)) (Fin.ext h.symm)
  · exact congrArg (fun p => (d (ix3 _ p c) : EReal)) (Fin.ext (by show 1 = k.val % 2; omega))

theorem yHalf_eq (c : Dev nD) (hF : Fin16 (xArr m c)) (d : Vec Ideal S3584x2x256 .bf16) (n : Fin 18432) (r q : Fin 256)
    (hd : ∀ k : Fin 7168, (rowAt d k q : EReal) = weightOf m c n (groupOf k) (posOf k)) :
    (yHalf (F := Ideal) d (xpOf (xArr m c)) (xsOf (xArr m c)) r q : EReal) = dotE m c r n := by
  have h1 : (yHalf (F := Ideal) d (xpOf (xArr m c)) (xsOf (xArr m c)) r q : EReal)
      = (k0_pay532 (F := Ideal) d (xpOf (xArr m c)) (ix2 r q) : EReal) * (xsOf (F := Ideal) (xArr m c) (ix2 r ⟨q.val % 128, by omega⟩) : EReal) := rfl
  rw [h1, product_at, xsOf_eq hF]
  unfold dotE
  congr 1
  rw [← sum_rows fun pos g => codeE (xArr m c) r (colOf pos g) * weightOf m c n g pos]
  refine Finset.sum_congr rfl fun k _ => ?_
  rw [xpOf_eq hF, hd, srcCol_eq]

/-- THE PRODUCT at an index. -/
theorem yArr_eq (c : Dev nD) (hF : Fin16 (xArr m c)) (hO : OrderedAll m c) (r : Fin 256) (n : Fin 18432) :
    (yArr (F := Ideal) m c (ix2 r n) : EReal) = dotE m c r n := by
  have hn := n.isLt
  have ht : (pt (n.val / 512)).val = n.val / 512 := Nat.mod_eq_of_lt (by omega)
  show (yBlock (F := Ideal) m c (pt (n.val / 512)) (ix2 r ⟨n.val % 512, Nat.mod_lt _ (by decide)⟩) : EReal) = _
  unfold yBlock actv
  rw [iblk0]
  by_cases hq : n.val % 512 < 256
  · rw [yOf_lo _ _ _ _ r _ ⟨n.val % 512, hq⟩ rfl]
    refine yHalf_eq m c hF _ n r _ fun k => ?_
    rw [chunkA_eq m c hO _ (by rw [ht]; omega)]
    congr 1
    exact Fin.ext (by show 512 * (pt (n.val / 512)).val + n.val % 512 = n.val; rw [ht]; omega)
  · rw [yOf_hi _ _ _ _ r _ ⟨n.val % 512 - 256, by omega⟩ (by show n.val % 512 = 256 + (n.val % 512 - 256); omega)]
    refine yHalf_eq m c hF _ n r _ fun k => ?_
    rw [chunkB_eq m c hO]
    congr 1
    exact Fin.ext (by show 512 * (pt (n.val / 512)).val + 256 + (n.val % 512 - 256) = n.val; rw [ht]; omega)

end Cert.KernelIdeal.Hand
-- ==== Proof.Pre.lean ====
module

public import proofs.«01_k».proof.Proof.YKernel
public import proofs.«01_k».proof.Proof.Gen.Pre_valid
public import proofs.«01_k».proof.Defs

@[expose] public section

/-!
# What the precondition says

The activations are finite, and in every word of column indices the first column of a pair is less than the second.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A shift right by a field's place. -/
theorem shr_field (w : BitVec 32) (i : Fin 8) :
    IntOp.andi (IntOp.shrsi .host w (IntOp.muli 4#32 (BitVec.ofNat 32 i.val))) 3#32 = field w (4 * i.val) := by
  fin_cases i <;> rfl

/-- … and by the next field's. -/
theorem shr_field' (w : BitVec 32) (i : Fin 8) :
    IntOp.andi (IntOp.shrsi .host w (IntOp.addi (IntOp.muli 4#32 (BitVec.ofNat 32 i.val)) 2#32)) 3#32 = field w (4 * i.val + 2) := by
  fin_cases i <;> rfl

variable (m : (ℓ : Loc nD τ sig) → Buf (Elt Ideal) ℓ)

/-- The precondition's first result: the activations are finite. -/
theorem fin16_of (c : Dev nD) (h : Cert.Pre_KernelIdeal_valid m) : Fin16 (xArr m c) := by
  intro i
  have h1 := (h c).1
  -- the flattened array reads the argument somewhere
  obtain ⟨j, hj⟩ : ∃ j, xArr (F := Ideal) m c i = m ((c : Thread nD τ).loc main_arg0) j := ⟨_, rfl⟩
  rw [hj]
  have h2 := congrFun h1 j
  have h3 : (Cert.Pre_valid.fn (F := Ideal) (m ((c.tc : Thread nD τ).loc main_arg0)) (m ((c.tc : Thread nD τ).loc main_arg1)) (m ((c.tc : Thread nD τ).loc main_arg2)) (m ((c.tc : Thread nD τ).loc main_arg3))).1 j
      = BitVec.ofBool (decide ((FloatOps.absf (F := Ideal) (φ := .bf16) (m ((c : Thread nD τ).loc main_arg0) j) : EReal) ≤ Ideal.ofBits .bf16 0x7F7F#16)) := rfl
  rw [h3, ofBool_one, decide_eq_true_iff] at h2
  exact h2

/-- The second: every word of column indices is ordered. -/
theorem ordered_of (c : Dev nD) (h : Cert.Pre_KernelIdeal_valid m) : OrderedAll m c := by
  intro n w i
  have h2 := congrFun (h c).2 (ix3 n w i)
  rw [← shr_field, ← shr_field']
  refine Eq.trans ?_ h2
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  unfold Cert.Pre_valid.fn
  dsimp only
  pointwise

end Cert.KernelIdeal.Hand
-- ==== Proof.YRef.lean ====
module

public import proofs.«01_k».proof.Proof.Pre
public import proofs.«01_k».proof.Proof.Gen.ReferenceIdeal.Run
public import proofs.«01_k».proof.Proof.Gen.ReferenceIdeal.Read

@[expose] public section

/-!
# The reference's product over the extended reals

At every index it is the sum over the columns of the codes times the weights, times the row's scale.
-/

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.Read
open Cert.KernelIdeal.Hand (pick field weightE colOf codeE shr_field shr_field')

/-! ## Indices -/

theorem ix46 (n : Fin 18432) (a : Fin 4) (g : Fin 1792) :
    idx_main_v46 (ix3 n a g) = ix4 n a ⟨g.val / 32, by omega⟩ ⟨g.val % 32, by omega⟩ := by
  have hn := n.isLt
  have ha := a.isLt
  have hg := g.isLt
  funext b
  match b with
  | ⟨0, _⟩ => exact Fin.ext (by show ((n.val * 4 + a.val) * 1792 + g.val) / 7168 = n.val; omega)
  | ⟨1, _⟩ => exact Fin.ext (by show ((n.val * 4 + a.val) * 1792 + g.val) / 1792 % 4 = a.val; omega)
  | ⟨2, _⟩ => exact Fin.ext (by show ((n.val * 4 + a.val) * 1792 + g.val) / 32 % 56 = g.val / 32; omega)
  | ⟨3, _⟩ => exact Fin.ext (by show ((n.val * 4 + a.val) * 1792 + g.val) % 32 = g.val % 32; omega)

theorem ix41 (n : Fin 18432) (a : Fin 4) (g : Fin 1792) :
    idx_main_v41 (ix4 n a ⟨g.val / 32, by omega⟩ ⟨g.val % 32, by omega⟩) = ix4 n a ⟨g.val / 8, by omega⟩ ⟨g.val % 8, by omega⟩ := by
  have hn := n.isLt
  have ha := a.isLt
  have hg := g.isLt
  funext b
  match b with
  | ⟨0, _⟩ => exact Fin.ext (by show (((n.val * 4 + a.val) * 56 + g.val / 32) * 32 + g.val % 32) / 7168 = n.val; omega)
  | ⟨1, _⟩ => exact Fin.ext (by show (((n.val * 4 + a.val) * 56 + g.val / 32) * 32 + g.val % 32) / 1792 % 4 = a.val; omega)
  | ⟨2, _⟩ => exact Fin.ext (by show (((n.val * 4 + a.val) * 56 + g.val / 32) * 32 + g.val % 32) / 8 % 224 = g.val / 8; omega)
  | ⟨3, _⟩ => exact Fin.ext (by show (((n.val * 4 + a.val) * 56 + g.val / 32) * 32 + g.val % 32) % 8 = g.val % 8; omega)

theorem ix24 (n : Fin 18432) (w : Fin 224) (i : Fin 8) : idx_main_v22 (idx_main_v23 (idx_main_v24 (ix3 n w i))) = ix2 n ⟨16 * w.val + 2 * i.val, by omega⟩ := by
  have hn := n.isLt
  have hw := w.isLt
  have hi := i.isLt
  have e : idx_main_v24 (ix3 n w i) = ix4 n w i 0 := by
    funext b
    match b with
    | ⟨0, _⟩ => exact Fin.ext (by show ((n.val * 224 + w.val) * 8 + i.val) / 1792 = n.val; omega)
    | ⟨1, _⟩ => exact Fin.ext (by show ((n.val * 224 + w.val) * 8 + i.val) / 8 % 224 = w.val; omega)
    | ⟨2, _⟩ => exact Fin.ext (by show ((n.val * 224 + w.val) * 8 + i.val) / 1 % 8 = i.val; omega)
    | ⟨3, _⟩ => rfl
  rw [e]
  funext b
  match b with
  | ⟨0, _⟩ => exact Fin.ext (by show (((n.val * 224 + w.val) * 8 + i.val) * 2 + 0) / 3584 = n.val; omega)
  | ⟨1, _⟩ => exact Fin.ext (by show (((n.val * 224 + w.val) * 8 + i.val) * 2 + 0) % 3584 = 16 * w.val + 2 * i.val; omega)

theorem ix26 (n : Fin 18432) (w : Fin 224) (i : Fin 8) : idx_main_v22 (idx_main_v25 (idx_main_v26 (ix3 n w i))) = ix2 n ⟨16 * w.val + 2 * i.val + 1, by omega⟩ := by
  have hn := n.isLt
  have hw := w.isLt
  have hi := i.isLt
  have e : idx_main_v26 (ix3 n w i) = ix4 n w i 0 := by
    funext b
    match b with
    | ⟨0, _⟩ => exact Fin.ext (by show ((n.val * 224 + w.val) * 8 + i.val) / 1792 = n.val; omega)
    | ⟨1, _⟩ => exact Fin.ext (by show ((n.val * 224 + w.val) * 8 + i.val) / 8 % 224 = w.val; omega)
    | ⟨2, _⟩ => exact Fin.ext (by show ((n.val * 224 + w.val) * 8 + i.val) / 1 % 8 = i.val; omega)
    | ⟨3, _⟩ => rfl
  rw [e]
  funext b
  match b with
  | ⟨0, _⟩ => exact Fin.ext (by show (((n.val * 224 + w.val) * 8 + i.val) * 2 + (1 + 0)) / 3584 = n.val; omega)
  | ⟨1, _⟩ => exact Fin.ext (by show (((n.val * 224 + w.val) * 8 + i.val) * 2 + (1 + 0)) % 3584 = 16 * w.val + 2 * i.val + 1; omega)

theorem ix47 (r : Fin 256) (a : Fin 4) (g : Fin 1792) : idx_main_v47 (idx_main_v48 (ix3 r a g)) = ix2 r (colOf a g) := by
  have hr := r.isLt
  have ha := a.isLt
  have hg := g.isLt
  funext b
  match b with
  | ⟨0, _⟩ => exact Fin.ext (by show ((r.val * 1792 + g.val) * 4 + a.val) / 7168 = r.val; omega)
  | ⟨1, _⟩ => exact Fin.ext (by show ((r.val * 1792 + g.val) * 4 + a.val) % 7168 = 4 * g.val + a.val; omega)

theorem ix4_drop (n : Fin 18432) (a : Fin 4) (w : Fin 224) (i : Fin 8) : idx_main_v29 (idx_main_v30 (ix4 n a w i)) = ix3 n w i := by
  funext b
  match b with
  | ⟨0, _⟩ => rfl
  | ⟨1, _⟩ => rfl
  | ⟨2, _⟩ => rfl

theorem ix4_drop' (n : Fin 18432) (a : Fin 4) (w : Fin 224) (i : Fin 8) : idx_main_v34 (idx_main_v35 (ix4 n a w i)) = ix3 n w i := by
  funext b
  match b with
  | ⟨0, _⟩ => rfl
  | ⟨1, _⟩ => rfl
  | ⟨2, _⟩ => rfl

theorem ix4_drop0 (n : Fin 18432) (a : Fin 4) (w : Fin 224) (i : Fin 8) : idx_main_v33 (idx_main_call1_v0 (ix4 n a w i)) = ix3 n w i := by
  funext b
  match b with
  | ⟨0, _⟩ => rfl
  | ⟨1, _⟩ => rfl
  | ⟨2, _⟩ => rfl

theorem ix4_drop1 (n : Fin 18432) (a : Fin 4) (w : Fin 224) (i : Fin 8) : idx_main_v38 (idx_main_call0_v0 (ix4 n a w i)) = ix3 n w i := by
  funext b
  match b with
  | ⟨0, _⟩ => rfl
  | ⟨1, _⟩ => rfl
  | ⟨2, _⟩ => rfl

theorem ix7 (n : Fin 18432) (w : Fin 224) (i : Fin 8) : idx_main_v3 (idx_main_v7 (ix3 n w i)) = ix2 n w := by
  funext b
  match b with
  | ⟨0, _⟩ => rfl
  | ⟨1, _⟩ => rfl

theorem ix17 (n : Fin 18432) (w : Fin 224) (i : Fin 8) : idx_main_v3 (idx_main_v17 (ix3 n w i)) = ix2 n w := by
  funext b
  match b with
  | ⟨0, _⟩ => rfl
  | ⟨1, _⟩ => rfl

theorem ix43 (n : Fin 18432) (a : Fin 4) (s : Fin 56) (l : Fin 32) : idx_main_v43 (idx_main_v44 (ix4 n a s l)) = ix2 n s := by
  funext b
  match b with
  | ⟨0, _⟩ => rfl
  | ⟨1, _⟩ => rfl

/-! ## The reference's arrays at an index -/

/-- The first column index of a group. -/
theorem v11_at (x2 : (⟨S18432x224, .i32⟩ : BufTy).Contents (Elt Ideal)) (n : Fin 18432) (w : Fin 224) (i : Fin 8) :
    val_main_v11 (F := Ideal) x2 (ix3 n w i) = field (x2 (ix2 n w)) (4 * i.val) := by
  simp only [val_main_v11_apply, val_main_v9_apply, val_main_v7_apply, val_main_v3_apply, ix7]
  exact shr_field (x2 (ix2 n w)) i

/-- The second. -/
theorem v21_at (x2 : (⟨S18432x224, .i32⟩ : BufTy).Contents (Elt Ideal)) (n : Fin 18432) (w : Fin 224) (i : Fin 8) :
    val_main_v21 (F := Ideal) x2 (ix3 n w i) = field (x2 (ix2 n w)) (4 * i.val + 2) := by
  simp only [val_main_v21_apply, val_main_v19_apply, val_main_v17_apply, val_main_v3_apply, ix17]
  exact shr_field' (x2 (ix2 n w)) i

/-- The kept values put at their columns. -/
theorem v40_at (x2 : (⟨S18432x224, .i32⟩ : BufTy).Contents (Elt Ideal)) (r3 : (⟨S18432x3584, .bf16⟩ : BufTy).Contents (Elt Ideal)) (n : Fin 18432) (a : Fin 4) (w : Fin 224) (i : Fin 8) :
    (val_main_v40 (F := Ideal) x2 r3 (ix4 n a w i) : EReal)
      = pick (field (x2 (ix2 n w)) (4 * i.val)) (field (x2 (ix2 n w)) (4 * i.val + 2)) (BitVec.ofNat 32 a.val)
          (r3 (ix2 n ⟨16 * w.val + 2 * i.val, by omega⟩)) (r3 (ix2 n ⟨16 * w.val + 2 * i.val + 1, by omega⟩)) := by
  have hz : (FloatOps.ofBits (F := Ideal) .bf16 0#16 : EReal) = 0 := Ideal.ofBits_zero_bf16
  simp only [val_main_v40_apply, val_main_v39_apply, val_main_v32_apply, val_main_v37_apply, val_main_v30_apply, val_main_v29_apply, val_main_v35_apply, val_main_v34_apply,
    val_main_call1_v0_apply, val_main_call0_v0_apply, val_main_call0_v1_apply, val_main_v33_apply, val_main_v38_apply, val_main_v24_apply, val_main_v23_apply, val_main_v22_apply,
    val_main_v26_apply, val_main_v25_apply, val_main_v31_apply, val_main_v36_apply, val_main_v28_apply, val_main_v27_apply, val_main_cst_apply,
    ix4_drop, ix4_drop', ix4_drop0, ix4_drop1, ix24, ix26, v11_at, v21_at, hz]
  rfl

/-- The dense weights. -/
theorem v46_at (x2 : (⟨S18432x224, .i32⟩ : BufTy).Contents (Elt Ideal)) (x3 : (⟨S18432x56, .f32⟩ : BufTy).Contents (Elt Ideal)) (r3 : (⟨S18432x3584, .bf16⟩ : BufTy).Contents (Elt Ideal))
    (n : Fin 18432) (a : Fin 4) (g : Fin 1792) :
    (val_main_v46 (F := Ideal) x2 x3 r3 (ix3 n a g) : EReal) = weightE (fun j => r3 (ix2 n j)) (fun j => x2 (ix2 n j)) (fun j => x3 (ix2 n j)) g a := by
  have hg := g.isLt
  have e0 : (⟨16 * (g.val / 8) + 2 * (g.val % 8), by omega⟩ : Fin 3584) = ⟨2 * g.val, by omega⟩ := Fin.ext (by show 16 * (g.val / 8) + 2 * (g.val % 8) = 2 * g.val; omega)
  have e1 : (⟨16 * (g.val / 8) + 2 * (g.val % 8) + 1, by omega⟩ : Fin 3584) = ⟨2 * g.val + 1, by omega⟩ := Fin.ext (by show 16 * (g.val / 8) + 2 * (g.val % 8) + 1 = 2 * g.val + 1; omega)
  rw [val_main_v46_apply, ix46, val_main_v45_apply, val_main_v41_apply, ix41, v40_at, val_main_v44_apply, val_main_v43_apply, ix43, val_main_v42_apply]
  simp only [e0, e1]
  rfl

theorem v48_at (r2 : (⟨S256x7168, .bf16⟩ : BufTy).Contents (Elt Ideal)) (r : Fin 256) (a : Fin 4) (g : Fin 1792) :
    (val_main_v48 (F := Ideal) r2 (ix3 r a g) : EReal) = r2 (ix2 r (colOf a g)) := by
  rw [val_main_v48_apply, val_main_v47_apply, ix47]

/-- The contraction over both axes. -/
theorem dot_at (a : FVec Ideal S256x4x1792 .bf16) (b : FVec Ideal S18432x4x1792 .bf16) (r : Fin 256) (n : Fin 18432) :
    ((Host.dotGeneral dot_S256x4x1792_S18432x4x1792_S256x18432_12_12_0_0_n_n none a b : FVec Ideal S256x18432 .f32) (ix2 r n) : EReal)
      = ∑ p : Fin 4, ∑ g : Fin 1792, (a (ix3 r p g) : EReal) * b (ix3 n p g) := by
  pointwise

/-- THE REFERENCE'S PRODUCT at an index. -/
theorem v52_at (x2 : (⟨S18432x224, .i32⟩ : BufTy).Contents (Elt Ideal)) (x3 : (⟨S18432x56, .f32⟩ : BufTy).Contents (Elt Ideal)) (r1 : (⟨S256x1, .f32⟩ : BufTy).Contents (Elt Ideal))
    (r2 : (⟨S256x7168, .bf16⟩ : BufTy).Contents (Elt Ideal)) (r3 : (⟨S18432x3584, .bf16⟩ : BufTy).Contents (Elt Ideal)) (r : Fin 256) (n : Fin 18432) :
    (val_main_v52 (F := Ideal) x2 x3 r1 r2 r3 (ix2 r n) : EReal)
      = (∑ p : Fin 4, ∑ g : Fin 1792, (r2 (ix2 r (colOf p g)) : EReal) * weightE (fun j => r3 (ix2 n j)) (fun j => x2 (ix2 n j)) (fun j => x3 (ix2 n j)) g p) * r1 (ix2 r 0) := by
  have h49 : (val_main_v49 (F := Ideal) x2 x3 r2 r3 (ix2 r n) : EReal)
      = ∑ p : Fin 4, ∑ g : Fin 1792, (r2 (ix2 r (colOf p g)) : EReal) * weightE (fun j => r3 (ix2 n j)) (fun j => x2 (ix2 n j)) (fun j => x3 (ix2 n j)) g p := by
    refine (dot_at (val_main_v48 (F := Ideal) r2) (val_main_v46 (F := Ideal) x2 x3 r3) r n).trans ?_
    refine Finset.sum_congr rfl fun p _ => Finset.sum_congr rfl fun g _ => ?_
    rw [v48_at, v46_at]
  have h50 : (val_main_v50 (F := Ideal) r1 (ix2 r n) : EReal) = r1 (ix2 r 0) := by
    rw [val_main_v50_apply]
    refine congrArg r1 ?_
    funext b
    match b with
    | ⟨0, _⟩ => rfl
    | ⟨1, _⟩ => rfl
  have h52 : (val_main_v52 (F := Ideal) x2 x3 r1 r2 r3 (ix2 r n) : EReal) = (val_main_v49 (F := Ideal) x2 x3 r2 r3 (ix2 r n) : EReal) * (val_main_v50 (F := Ideal) r1 (ix2 r n) : EReal) := rfl
  rw [h52, h49, h50]

end Cert.ReferenceIdeal.Hand
-- ==== Proof.Value.lean ====
module

public import proofs.«01_k».proof.Proof.RefFinal
public import proofs.«01_k».proof.Proof.YRef

@[expose] public section

/-!
# The value claim

From every initial memory that meets the precondition the kernel and the reference leave the same product, codes and scales.
-/

set_option maxRecDepth 16384

noncomputable section

namespace Cert.Hand

open Idealize.ShloMosaic Idealize.ShloMosaic.TcCoe Idealize.ShloMosaic.Tactic
open Idealize.SL.Sem
open Cert.KernelIdeal.Hand (xArr yArr codesOf scaleOf codeE colOf weightE dotE)
open Cert.ReferenceIdeal.Read (val_main_v52)

/-- The codes read by the contraction are the codes. -/
theorem pay5_at (x : Vec Ideal Cert.KernelIdeal.S256x7168 .bf16) (r : Fin 256) (k : Fin 7168) :
    (Cert.ReferenceIdeal.Gen.k0_pay5 (F := Ideal) x (ix2 r k) : EReal) = codeE x r k :=
  (show (Cert.ReferenceIdeal.Gen.k0_pay5 (F := Ideal) x (ix2 r k) : EReal) = Cert.ReferenceIdeal.Gen.k0_pay4 (F := Ideal) x (ix2 r k) from rfl).trans
    (Cert.KernelIdeal.Hand.ref_codes x r k)

/-- The kept values read by the weights are the argument's. -/
theorem pay1_at (w : Vec Ideal Cert.ReferenceIdeal.S18432x3584 .fp8e4m3) (n : Fin 18432) (k : Fin 3584) :
    (Cert.ReferenceIdeal.Gen.k0_pay1 (F := Ideal) w (ix2 n k) : EReal) = w (ix2 n k) := rfl

variable (m : (ℓ : Loc Cert.KernelIdeal.nD Cert.KernelIdeal.τ Cert.KernelIdeal.sig) → Buf (Elt Ideal) ℓ)

/-- The reference's product, of the kernel's arguments, is the kernel's. -/
theorem y_eq (c : Dev Cert.KernelIdeal.nD) (h : Cert.Pre_KernelIdeal_valid m) :
    val_main_v52 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (Cert.ReferenceIdeal.Gen.k0_pay3 (F := Ideal) (xArr m c))
        (Cert.ReferenceIdeal.Gen.k0_pay5 (F := Ideal) (xArr m c))
        (Cert.ReferenceIdeal.Gen.k0_pay1 (F := Ideal) (m ((c.tc : Thread Cert.KernelIdeal.nD Cert.KernelIdeal.τ).loc Cert.KernelIdeal.main_arg1)))
      = yArr (F := Ideal) m c := by
  funext j
  idx_vars j
  refine Eq.trans ?_ (Cert.KernelIdeal.Hand.yArr_eq m c (Cert.KernelIdeal.Hand.fin16_of m c h) (Cert.KernelIdeal.Hand.ordered_of m c h) j0 j1).symm
  rw [Cert.ReferenceIdeal.Hand.v52_at]
  simp only [pay5_at, pay1_at]
  rfl

/-- What the kernel's run leaves in its three results, the arguments unchanged. -/
theorem kernel_run (ρ : Dev Cert.KernelIdeal.nD → PrngReg) (h : Cert.Pre_KernelIdeal_valid m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1_0) = yArr (F := Ideal) m c
      ∧ r.2.mem ((c.tc : Thread Cert.KernelIdeal.nD Cert.KernelIdeal.τ).loc Cert.KernelIdeal.main_v1_1) = Cert.ReferenceIdeal.Gen.k0_pay4 (F := Ideal) (xArr m c)
      ∧ r.2.mem ((c.tc : Thread Cert.KernelIdeal.nD Cert.KernelIdeal.τ).loc Cert.KernelIdeal.main_v1_2) = Cert.ReferenceIdeal.Gen.k0_pay3 (F := Ideal) (xArr m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono
    (fun _ hr c => ⟨((hr.1.1 c).1 10).trans (Cert.KernelIdeal.Hand.final_y m c),
      ((hr.1.1 c).1 11).trans ((Cert.KernelIdeal.Hand.final_codes m c).trans (Cert.KernelIdeal.Hand.codesOf_arr (Cert.KernelIdeal.Hand.fin16_of m c h))),
      ((hr.1.1 c).1 12).trans ((Cert.KernelIdeal.Hand.final_scale m c).trans (Cert.KernelIdeal.Hand.scaleOf_arr (Cert.KernelIdeal.Hand.fin16_of m c h))),
      hr.2.1 c⟩)
    (θ_run_and (Cert.KernelIdeal.Hand.run_main_quiescent (F := Ideal) m ρ) (Cert.KernelIdeal.Hand.frame (F := Ideal) m ρ))

/-- THE VALUE CLAIM: under the precondition kernel and reference leave equal results. -/
theorem algebraic : Cert.algebraic_KernelIdeal_ReferenceIdeal_pre_valid := by
  intro m g m' g' hp ha
  have hx : ∀ c : Dev Cert.KernelIdeal.nD, Cert.ReferenceIdeal.Hand.xArr (F := Ideal) m' c = xArr (F := Ideal) m c := fun c =>
    congrArg (fun z : Vec Ideal Cert.ReferenceIdeal.S2x128x7168 .bf16 => (shapeCast Cert.ReferenceIdeal.S256x7168 z Cert.ReferenceIdeal.Gen.shapeCasts_S2x128x7168_S256x7168 : Vec Ideal Cert.ReferenceIdeal.S256x7168 .bf16)) (ha c).1
  refine ⟨fun c => yArr (F := Ideal) m c, fun c => Cert.ReferenceIdeal.Gen.k0_pay4 (F := Ideal) (xArr m c), fun c => Cert.ReferenceIdeal.Gen.k0_pay3 (F := Ideal) (xArr m c), kernel_run m g hp, ?_⟩
  refine (θ_run _ _ _).mono (fun r hr c => ?_) (Cert.ReferenceIdeal.Value.run (F := Ideal) m' g')
  obtain ⟨h0, h1, h2, h3⟩ := hr c
  refine ⟨h0.trans ?_, h1.trans ?_, h2.trans ?_, h3⟩
  · show val_main_v52 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (Cert.ReferenceIdeal.Value.reg_main_v1_1 m' c) (Cert.ReferenceIdeal.Value.reg_main_v1_2 m' c) (Cert.ReferenceIdeal.Value.reg_main_v1_3 m' c) = yArr (F := Ideal) m c
    rw [Cert.ReferenceIdeal.Hand.reg_scale, Cert.ReferenceIdeal.Hand.reg_xb, Cert.ReferenceIdeal.Hand.reg_wb, hx c, (ha c).2.1, (ha c).2.2.1, (ha c).2.2.2]
    exact y_eq m c hp
  · rw [Cert.ReferenceIdeal.Hand.reg_codes, hx c]
  · rw [Cert.ReferenceIdeal.Hand.reg_scale, hx c]

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.Gen.Pre_valid
public import proofs.«01_k».proof.Proof.KFrame
public import proofs.«01_k».proof.Proof.FrameK
public import proofs.«01_k».proof.Proof.Value
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The frames of the three programs, the rewrites of the bf16 row pairs and of the buffers of words, and the value claim on valid arguments. -/
theorem claim : Cert.Claim := ⟨Cert.Kernel.Gen.facts, Cert.KernelIdeal.Gen.facts, Cert.ReferenceIdeal.Gen.facts, Cert.Pre_valid.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    ⟨IdealRules.bf16_pair.bufferStatement Cert.KernelIdeal.S3584x2x256 Cert.KernelIdeal.S3584x1x256,
      IdealRules.bf16_pair.statement Cert.KernelIdeal.S16x128 Cert.KernelIdeal.S8x128,
      IdealRules.bf16_pair.statement Cert.KernelIdeal.S8x2x128 Cert.KernelIdeal.S8x1x128,
      IdealRules.bf16_pair.statement Cert.KernelIdeal.S3584x2x256 Cert.KernelIdeal.S3584x1x256,
      IdealRules.bf16_pair.statement Cert.KernelIdeal.S7168x256 Cert.KernelIdeal.S3584x256⟩, Cert.Hand.algebraic⟩

end Cert.Proof

end
